-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S128x80 : Shape := ⟨2, ![128, 80]⟩
abbrev S10000x100 : Shape := ⟨2, ![10000, 100]⟩
abbrev S100x256 : Shape := ⟨2, ![100, 256]⟩
abbrev S64x256 : Shape := ⟨2, ![64, 256]⟩
abbrev S256 : Shape := ⟨1, ![256]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S128x80 : S_.BroadcastsInDim S128x80 (![] : Fin 0 → Fin S128x80.rank)

variable [Facts]

def fn {F : FTy → Type} [FloatOps F] (main_arg0 : IVec S128x80 32) (main_arg1 : FVec F S10000x100 .f32) (main_arg2 : FVec F S100x256 .f32) (main_arg3 : FVec F S64x256 .f32) (main_arg4 : FVec F S256 .f32) (main_arg5 : FVec F S64x256 .f32) (main_arg6 : FVec F S64x256 .f32) (main_arg7 : FVec F S256 .f32) (main_arg8 : FVec F S64x64 .f32) (main_arg9 : FVec F S64 .f32) (main_arg10 : FVec F S64x1 .f32) (main_arg11 : FVec F S1 .f32) : IVec S128x80 1 :=
  let main_c : IVec S_ 32 := constantI S_ 32 0#32
  let main_v0 : IVec S128x80 32 := broadcastInDim S128x80 ![] bcast_S_S128x80 main_c
  let main_v1 : IVec S128x80 1 := cmpi .sge main_arg0 main_v0
  let main_c_0 : IVec S_ 32 := constantI S_ 32 10000#32
  let main_v2 : IVec S128x80 32 := broadcastInDim S128x80 ![] bcast_S_S128x80 main_c_0
  let main_v3 : IVec S128x80 1 := cmpi .slt main_arg0 main_v2
  let main_v4 : IVec S128x80 1 := andi main_v1 main_v3
  main_v4
-- ==== Kernel.lean ====
abbrev S128x80 : Shape := ⟨2, ![128, 80]⟩
abbrev S10000x100 : Shape := ⟨2, ![10000, 100]⟩
abbrev S100x256 : Shape := ⟨2, ![100, 256]⟩
abbrev S64x256 : Shape := ⟨2, ![64, 256]⟩
abbrev S256 : Shape := ⟨1, ![256]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S10000x28 : Shape := ⟨2, ![10000, 28]⟩
abbrev S10000x128 : Shape := ⟨2, ![10000, 128]⟩
abbrev S80x128 : Shape := ⟨2, ![80, 128]⟩
abbrev S10240 : Shape := ⟨1, ![10240]⟩
abbrev S10240x128 : Shape := ⟨2, ![10240, 128]⟩
abbrev S320 : Shape := ⟨1, ![320]⟩
abbrev S320x128 : Shape := ⟨2, ![320, 128]⟩
abbrev S28x256 : Shape := ⟨2, ![28, 256]⟩
abbrev S128x256 : Shape := ⟨2, ![128, 256]⟩
abbrev S128x64 : Shape := ⟨2, ![128, 64]⟩
abbrev S256x64 : Shape := ⟨2, ![256, 64]⟩
abbrev S256x512 : Shape := ⟨2, ![256, 512]⟩
abbrev S512 : Shape := ⟨1, ![512]⟩
abbrev S1x512 : Shape := ⟨2, ![1, 512]⟩
abbrev S1x64 : Shape := ⟨2, ![1, 64]⟩
abbrev S1x1 : Shape := ⟨2, ![1, 1]⟩
abbrev S128x1 : Shape := ⟨2, ![128, 1]⟩
abbrev S128x128 : Shape := ⟨2, ![128, 128]⟩
abbrev S128x512 : Shape := ⟨2, ![128, 512]⟩
abbrev S64x128 : Shape := ⟨2, ![64, 128]⟩
abbrev S64x512 : Shape := ⟨2, ![64, 512]⟩

abbrev nBuf : Table → Nat
  | .hbm => 123
  | .local .tc .vmem => 8
  | .local .scVector .vmem => 2
  | _ => 0

abbrev bufTy : (tb : Table) → Fin (nBuf tb) → BufTy
  | .hbm, ⟨0, _⟩ => ⟨S128x80, .i32⟩
  | .hbm, ⟨1, _⟩ => ⟨S10000x100, .f32⟩
  | .hbm, ⟨2, _⟩ => ⟨S100x256, .f32⟩
  | .hbm, ⟨3, _⟩ => ⟨S64x256, .f32⟩
  | .hbm, ⟨4, _⟩ => ⟨S256, .f32⟩
  | .hbm, ⟨5, _⟩ => ⟨S64x256, .f32⟩
  | .hbm, ⟨6, _⟩ => ⟨S64x256, .f32⟩
  | .hbm, ⟨7, _⟩ => ⟨S256, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S_, .f32⟩
  | .hbm, ⟨13, _⟩ => ⟨S10000x28, .f32⟩
  | .hbm, ⟨14, _⟩ => ⟨S10000x128, .f32⟩
  | .hbm, ⟨15, _⟩ => ⟨S80x128, .i32⟩
  | .hbm, ⟨16, _⟩ => ⟨S10240, .i32⟩
  | .hbm, ⟨17, _⟩ => ⟨S10240x128, .f32⟩
  | .hbm, ⟨18, _⟩ => ⟨S_, .f32⟩
  | .hbm, ⟨19, _⟩ => ⟨S28x256, .f32⟩
  | .hbm, ⟨20, _⟩ => ⟨S128x256, .f32⟩
  | .hbm, ⟨21, _⟩ => ⟨S_, .f32⟩
  | .hbm, ⟨22, _⟩ => ⟨S64x64, .f32⟩
  | .hbm, ⟨23, _⟩ => ⟨S_, .f32⟩
  | .hbm, ⟨24, _⟩ => ⟨S128x64, .f32⟩
  | .hbm, ⟨25, _⟩ => ⟨S64x64, .f32⟩
  | .hbm, ⟨26, _⟩ => ⟨S128x64, .f32⟩
  | .hbm, ⟨27, _⟩ => ⟨S256x64, .f32⟩
  | .hbm, ⟨28, _⟩ => ⟨S_, .f32⟩
  | .hbm, ⟨29, _⟩ => ⟨S256x64, .f32⟩
  | .hbm, ⟨30, _⟩ => ⟨S256x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S256x64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64x64, .f32⟩
  | .hbm, ⟨49, _⟩ => ⟨S128x64, .f32⟩
  | .hbm, ⟨50, _⟩ => ⟨S256x64, .f32⟩
  | .hbm, ⟨51, _⟩ => ⟨S_, .f32⟩
  | .hbm, ⟨52, _⟩ => ⟨S256x64, .f32⟩
  | .hbm, ⟨53, _⟩ => ⟨S256x64, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S256x64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64x64, .f32⟩
  | .hbm, ⟨72, _⟩ => ⟨S128x64, .f32⟩
  | .hbm, ⟨73, _⟩ => ⟨S256x64, .f32⟩
  | .hbm, ⟨74, _⟩ => ⟨S_, .f32⟩
  | .hbm, ⟨75, _⟩ => ⟨S256x64, .f32⟩
  | .hbm, ⟨76, _⟩ => ⟨S256x64, .f32⟩
  | .hbm, ⟨77, _⟩ => ⟨S64x64, .f32⟩
  | .hbm, ⟨78, _⟩ => ⟨S_, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S_, .f32⟩
  | .hbm, ⟨83, _⟩ => ⟨S64x64, .f32⟩
  | .hbm, ⟨84, _⟩ => ⟨S64x64, .f32⟩
  | .hbm, ⟨85, _⟩ => ⟨S256x64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x64, .f32⟩
  | .hbm, ⟨95, _⟩ => ⟨S128x64, .f32⟩
  | .hbm, ⟨96, _⟩ => ⟨S256x64, .f32⟩
  | .hbm, ⟨97, _⟩ => ⟨S_, .f32⟩
  | .hbm, ⟨98, _⟩ => ⟨S256x64, .f32⟩
  | .hbm, ⟨99, _⟩ => ⟨S256x64, .f32⟩
  | .hbm, ⟨100, _⟩ => ⟨S64x64, .f32⟩
  | .hbm, ⟨101, _⟩ => ⟨S_, .f32⟩
  | .hbm, ⟨102, _⟩ => ⟨S64x64, .f32⟩
  | .hbm, ⟨103, _⟩ => ⟨S64x64, .f32⟩
  | .hbm, ⟨104, _⟩ => ⟨S64x64, .f32⟩
  | .hbm, ⟨105, _⟩ => ⟨S_, .f32⟩
  | .hbm, ⟨106, _⟩ => ⟨S64x64, .f32⟩
  | .hbm, ⟨107, _⟩ => ⟨S64x64, .f32⟩
  | .hbm, ⟨108, _⟩ => ⟨S256x64, .f32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S256x512, .f32⟩
  | .hbm, ⟨118, _⟩ => ⟨S512, .f32⟩
  | .hbm, ⟨119, _⟩ => ⟨S1x512, .f32⟩
  | .hbm, ⟨120, _⟩ => ⟨S1x64, .f32⟩
  | .hbm, ⟨121, _⟩ => ⟨S1x1, .f32⟩
  | .hbm, ⟨122, _⟩ => ⟨S128x1, .f32⟩
  | .local .tc .vmem, ⟨0, _⟩ => ⟨S10240x128, .f32⟩
  | .local .tc .vmem, ⟨1, _⟩ => ⟨S256x512, .f32⟩
  | .local .tc .vmem, ⟨2, _⟩ => ⟨S1x512, .f32⟩
  | .local .tc .vmem, ⟨3, _⟩ => ⟨S64x64, .f32⟩
  | .local .tc .vmem, ⟨4, _⟩ => ⟨S1x64, .f32⟩
  | .local .tc .vmem, ⟨5, _⟩ => ⟨S64x1, .f32⟩
  | .local .tc .vmem, ⟨6, _⟩ => ⟨S1x1, .f32⟩
  | .local .tc .vmem, ⟨7, _⟩ => ⟨S128x1, .f32⟩
  | .local .scVector .vmem, ⟨0, _⟩ => ⟨S320, .i32⟩
  | .local .scVector .vmem, ⟨1, _⟩ => ⟨S320x128, .f32⟩
  | _, _ => ⟨S128x80, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_19 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_20 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_21 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_22 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v1_scv : Ref sig .scVector := ⟨.hbm, 14, rfl⟩
abbrev main_v3_scv : Ref sig .scVector := ⟨.hbm, 16, rfl⟩
abbrev main_v4_scv : Ref sig .scVector := ⟨.hbm, 17, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_3_r1 : BitVec 32 := 0#32
  ![v2.toNat, 0]
abbrev grid1 : Pipeline.Grid := .none

@[reducible] def k1_t1_loop : Scf.Loop 32 :=
  let c1_i32 : BitVec 32 := 1#32
  let c80_i32 : BitVec 32 := 80#32
  let v41 : BitVec 32 := Scalar.addi c1_i32 c80_i32
  let c1_i32_14 : BitVec 32 := 1#32
  ⟨c1_i32, v41, c1_i32_14⟩
def k1_off1 (k1_t1 : Fin k1_t1_loop.trips) : Fin 2 → Nat :=
  let c1_i32 : BitVec 32 := 1#32
  let c1_i32_14 : BitVec 32 := 1#32
  let arg8 : BitVec 32 := Scf.iv c1_i32 c1_i32_14 k1_t1
  let c79_i32 : BitVec 32 := 79#32
  let v75 : BitVec 32 := Scalar.minsi arg8 c79_i32
  let c128_i32 : BitVec 32 := 128#32
  let v76 : BitVec 32 := Scalar.muli v75 c128_i32
  let v77 : Index := Scalar.indexCast v76
  let c0_31 : Index := 0#32
  ![v77.toNat, 0]
def k1_off2 (k1_t1 : Fin k1_t1_loop.trips) : Fin 2 → Nat :=
  let c1_i32 : BitVec 32 := 1#32
  let c1_i32_14 : BitVec 32 := 1#32
  let arg8 : BitVec 32 := Scf.iv c1_i32 c1_i32_14 k1_t1
  let c1_i32_39 : BitVec 32 := 1#32
  let v102 : BitVec 32 := Scalar.addi arg8 c1_i32_39
  let c79_i32_40 : BitVec 32 := 79#32
  let v103 : BitVec 32 := Scalar.minsi v102 c79_i32_40
  let c128_i32_41 : BitVec 32 := 128#32
  let v104 : BitVec 32 := Scalar.muli v103 c128_i32_41
  let c64_i32_42 : BitVec 32 := 64#32
  let v105 : BitVec 32 := Scalar.addi v104 c64_i32_42
  let v106 : Index := Scalar.indexCast v105
  let c0_43 : Index := 0#32
  ![v106.toNat, 0]
abbrev stage1_0 : Fin 1 → Memref sig .tc .vmem S10240x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x80 : Shape := ⟨2, ![128, 80]⟩
abbrev S10000x100 : Shape := ⟨2, ![10000, 100]⟩
abbrev S100x256 : Shape := ⟨2, ![100, 256]⟩
abbrev S64x256 : Shape := ⟨2, ![64, 256]⟩
abbrev S256 : Shape := ⟨1, ![256]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S128x80x1 : Shape := ⟨3, ![128, 80, 1]⟩
abbrev S1x1x1 : Shape := ⟨3, ![1, 1, 1]⟩
abbrev S128x80x100 : Shape := ⟨3, ![128, 80, 100]⟩
abbrev S128x64 : Shape := ⟨2, ![128, 64]⟩
abbrev S80x128x100 : Shape := ⟨3, ![80, 128, 100]⟩
abbrev S1x128x100 : Shape := ⟨3, ![1, 128, 100]⟩
abbrev S128x100 : Shape := ⟨2, ![128, 100]⟩
abbrev S128x256 : Shape := ⟨2, ![128, 256]⟩
abbrev S1x256 : Shape := ⟨2, ![1, 256]⟩
abbrev S1x64 : Shape := ⟨2, ![1, 64]⟩
abbrev S128x1 : Shape := ⟨2, ![128, 1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S128x80, .i32⟩
  | 1 => ⟨S10000x100, .f32⟩
  | 2 => ⟨S100x256, .f32⟩
  | 3 => ⟨S64x256, .f32⟩
  | 4 => ⟨S256, .f32⟩
  | 5 => ⟨S64x256, .f32⟩
  | 6 => ⟨S64x256, .f32⟩
  | 7 => ⟨S256, .f32⟩
  | 8 => ⟨S64x64, .f32⟩
  | 9 => ⟨S64, .f32⟩
  | 10 => ⟨S64x1, .f32⟩
  | 11 => ⟨S1, .f32⟩
  | 12 => ⟨S_, .i32⟩
  | 13 => ⟨S128x80, .i32⟩
  | 14 => ⟨S128x80, .i1⟩
  | 15 => ⟨S_, .i32⟩
  | 16 => ⟨S128x80, .i32⟩
  | 17 => ⟨S128x80, .i32⟩
  | 18 => ⟨S128x80, .i32⟩
  | 19 => ⟨S128x80x1, .i32⟩
  | 20 => ⟨S1, .i32⟩
  | 21 => ⟨S_, .i32⟩
  | 22 => ⟨S128x80x1, .i32⟩
  | 23 => ⟨S128x80x1, .i1⟩
  | 24 => ⟨S1x1x1, .i32⟩
  | 25 => ⟨S128x80x1, .i32⟩
  | 26 => ⟨S128x80x1, .i1⟩
  | 27 => ⟨S128x80x1, .i1⟩
  | 28 => ⟨S_, .i1⟩
  | 29 => ⟨S128x80, .i1⟩
  | 30 => ⟨S128x80x100, .f32⟩
  | 31 => ⟨S128x80x100, .i1⟩
  | 32 => ⟨S_, .f32⟩
  | 33 => ⟨S128x80x100, .f32⟩
  | 34 => ⟨S128x80x100, .f32⟩
  | 35 => ⟨S_, .f32⟩
  | 36 => ⟨S128x64, .f32⟩
  | 37 => ⟨S_, .f32⟩
  | 38 => ⟨S128x64, .f32⟩
  | 39 => ⟨S_, .f32⟩
  | 40 => ⟨S128x64, .f32⟩
  | 41 => ⟨S_, .f32⟩
  | 42 => ⟨S128x64, .f32⟩
  | 43 => ⟨S80x128x100, .f32⟩
  | 44 => ⟨S_, .i32⟩
  | 45 => ⟨S80x128x100, .f32⟩
  | 46 => ⟨S100x256, .f32⟩
  | 47 => ⟨S64x256, .f32⟩
  | 48 => ⟨S256, .f32⟩
  | 49 => ⟨S64x256, .f32⟩
  | 50 => ⟨S64x256, .f32⟩
  | 51 => ⟨S256, .f32⟩
  | 52 => ⟨S_, .i32⟩
  | 53 => ⟨S128x64, .f32⟩
  | 54 => ⟨S128x64, .f32⟩
  | 55 => ⟨S128x64, .f32⟩
  | 56 => ⟨S128x64, .f32⟩
  | 57 => ⟨S_, .i32⟩
  | 58 => ⟨S_, .i1⟩
  | 59 => ⟨S_, .i32⟩
  | 60 => ⟨S_, .i32⟩
  | 61 => ⟨S1x128x100, .f32⟩
  | 62 => ⟨S128x100, .f32⟩
  | 63 => ⟨S128x256, .f32⟩
  | 64 => ⟨S128x256, .f32⟩
  | 65 => ⟨S128x256, .f32⟩
  | 66 => ⟨S1x256, .f32⟩
  | 67 => ⟨S128x256, .f32⟩
  | 68 => ⟨S128x256, .f32⟩
  | 69 => ⟨S128x64, .f32⟩
  | 70 => ⟨S128x64, .f32⟩
  | 71 => ⟨S128x64, .f32⟩
  | 72 => ⟨S128x64, .f32⟩
  | 73 => ⟨S128x64, .f32⟩
  | 74 => ⟨S128x64, .f32⟩
  | 75 => ⟨S_, .f32⟩
  | 76 => ⟨S128x64, .f32⟩
  | 77 => ⟨S128x64, .f32⟩
  | 78 => ⟨S_, .f32⟩
  | 79 => ⟨S128x64, .f32⟩
  | 80 => ⟨S128x64, .f32⟩
  | 81 => ⟨S128x64, .f32⟩
  | 82 => ⟨S128x64, .f32⟩
  | 83 => ⟨S_, .f32⟩
  | 84 => ⟨S128x64, .f32⟩
  | 85 => ⟨S128x64, .f32⟩
  | 86 => ⟨S_, .f32⟩
  | 87 => ⟨S128x64, .f32⟩
  | 88 => ⟨S128x64, .f32⟩
  | 89 => ⟨S128x64, .f32⟩
  | 90 => ⟨S128x64, .f32⟩
  | 91 => ⟨S128x64, .f32⟩
  | 92 => ⟨S_, .f32⟩
  | 93 => ⟨S128x64, .f32⟩
  | 94 => ⟨S128x64, .f32⟩
  | 95 => ⟨S_, .f32⟩
  | 96 => ⟨S128x64, .f32⟩
  | 97 => ⟨S128x64, .f32⟩
  | 98 => ⟨S128x64, .f32⟩
  | 99 => ⟨S128x64, .f32⟩
  | 100 => ⟨S128x64, .f32⟩
  | 101 => ⟨S128x64, .f32⟩
  | 102 => ⟨S128x64, .f32⟩
  | 103 => ⟨S128x256, .f32⟩
  | 104 => ⟨S128x256, .f32⟩
  | 105 => ⟨S128x256, .f32⟩
  | 106 => ⟨S1x256, .f32⟩
  | 107 => ⟨S128x256, .f32⟩
  | 108 => ⟨S128x256, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S128x64, .f32⟩
  | 115 => ⟨S_, .f32⟩
  | 116 => ⟨S128x64, .f32⟩
  | 117 => ⟨S128x64, .f32⟩
  | 118 => ⟨S_, .f32⟩
  | 119 => ⟨S128x64, .f32⟩
  | 120 => ⟨S128x64, .f32⟩
  | 121 => ⟨S128x64, .f32⟩
  | 122 => ⟨S128x64, .f32⟩
  | 123 => ⟨S_, .f32⟩
  | 124 => ⟨S128x64, .f32⟩
  | 125 => ⟨S128x64, .f32⟩
  | 126 => ⟨S_, .f32⟩
  | 127 => ⟨S128x64, .f32⟩
  | _ => ⟨S128x80, .i32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S_, .f32⟩
  | 5 => ⟨S128x64, .f32⟩
  | 6 => ⟨S128x64, .f32⟩
  | 7 => ⟨S_, .f32⟩
  | 8 => ⟨S128x64, .f32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S_, .i32⟩
  | 16 => ⟨S_, .i32⟩
  | 17 => ⟨S128x64, .f32⟩
  | 18 => ⟨S1x64, .f32⟩
  | 19 => ⟨S128x64, .f32⟩
  | 20 => ⟨S128x64, .f32⟩
  | 21 => ⟨S_, .f32⟩
  | 22 => ⟨S128x64, .f32⟩
  | 23 => ⟨S128x64, .f32⟩
  | 24 => ⟨S128x1, .f32⟩
  | 25 => ⟨S1x1, .f32⟩
  | 26 => ⟨S128x1, .f32⟩
  | 27 => ⟨S128x1, .f32⟩
  | 28 => ⟨S128x1, .f32⟩
  | 29 => ⟨S128x1, .f32⟩
  | 30 => ⟨S_, .f32⟩
  | 31 => ⟨S128x1, .f32⟩
  | 32 => ⟨S128x1, .f32⟩
  | 33 => ⟨S_, .f32⟩
  | 34 => ⟨S128x1, .f32⟩
  | 35 => ⟨S128x1, .f32⟩
  | _ => ⟨S128x80, .i32⟩

abbrev hbmTy (i : Nat) : BufTy := match i / 128 with
  | 0 => hbmTy0_0 i
  | 1 => hbmTy0_1 i
  | _ => ⟨S128x80, .i32⟩

abbrev bufTy : (tb : Table) → Fin (tcTables nBuf tb) → BufTy
  | .hbm, ⟨i, _⟩ => hbmTy i
  | _, _ => ⟨S128x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_cst_1 : Ref sig .tc := ⟨.hbm, 39, rfl⟩
abbrev main_v3 : Ref sig .tc := ⟨.hbm, 40, rfl⟩
abbrev main_cst_2 : Ref sig .tc := ⟨.hbm, 41, rfl⟩
abbrev main_v4 : Ref sig .tc := ⟨.hbm, 42, rfl⟩
abbrev main_v5 : Ref sig .tc := ⟨.hbm, 43, rfl⟩
abbrev main_c : Ref sig .tc := ⟨.hbm, 44, rfl⟩
abbrev main_v6_0 : Ref sig .tc := ⟨.hbm, 45, rfl⟩
abbrev main_v6_1 : Ref sig .tc := ⟨.hbm, 46, rfl⟩
abbrev main_v6_2 : Ref sig .tc := ⟨.hbm, 47, rfl⟩
abbrev main_v6_3 : Ref sig .tc := ⟨.hbm, 48, rfl⟩
abbrev main_v6_4 : Ref sig .tc := ⟨.hbm, 49, rfl⟩
abbrev main_v6_5 : Ref sig .tc := ⟨.hbm, 50, rfl⟩
abbrev main_v6_6 : Ref sig .tc := ⟨.hbm, 51, rfl⟩
abbrev main_v6_7 : Ref sig .tc := ⟨.hbm, 52, rfl⟩
abbrev main_v6_8 : Ref sig .tc := ⟨.hbm, 53, rfl⟩
abbrev main_v6_9 : Ref sig .tc := ⟨.hbm, 54, rfl⟩
abbrev main_v6_10 : Ref sig .tc := ⟨.hbm, 55, rfl⟩
abbrev main_v6_11 : Ref sig .tc := ⟨.hbm, 56, rfl⟩
abbrev main_while0c_c_17 : Ref sig .tc := ⟨.hbm, 57, rfl⟩
abbrev main_while0c_v23 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_v0 : Ref sig .tc := ⟨.hbm, 61, rfl⟩
abbrev main_while0b_v23 : Ref sig .tc := ⟨.hbm, 62, rfl⟩
abbrev main_while0b_v24 : Ref sig .tc := ⟨.hbm, 63, rfl⟩
abbrev main_while0b_v25 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_v34 : Ref sig .tc := ⟨.hbm, 73, rfl⟩
abbrev main_while0b_v35 : Ref sig .tc := ⟨.hbm, 74, rfl⟩
abbrev main_while0b_cst_17 : Ref sig .tc := ⟨.hbm, 75, rfl⟩
abbrev main_while0b_v36 : Ref sig .tc := ⟨.hbm, 76, rfl⟩
abbrev main_while0b_v37 : Ref sig .tc := ⟨.hbm, 77, rfl⟩
abbrev main_while0b_cst_18 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_cst_19 : Ref sig .tc := ⟨.hbm, 83, rfl⟩
abbrev main_while0b_v42 : Ref sig .tc := ⟨.hbm, 84, rfl⟩
abbrev main_while0b_v43 : Ref sig .tc := ⟨.hbm, 85, rfl⟩
abbrev main_while0b_cst_20 : Ref sig .tc := ⟨.hbm, 86, rfl⟩
abbrev main_while0b_v44 : Ref sig .tc := ⟨.hbm, 87, rfl⟩
abbrev main_while0b_v45 : Ref sig .tc := ⟨.hbm, 88, rfl⟩
abbrev main_while0b_v46 : Ref sig .tc := ⟨.hbm, 89, rfl⟩
abbrev main_while0b_v47 : Ref sig .tc := ⟨.hbm, 90, rfl⟩
abbrev main_while0b_v48 : Ref sig .tc := ⟨.hbm, 91, rfl⟩
abbrev main_while0b_cst_21 : Ref sig .tc := ⟨.hbm, 92, rfl⟩
abbrev main_while0b_v49 : Ref sig .tc := ⟨.hbm, 93, rfl⟩
abbrev main_while0b_v50 : Ref sig .tc := ⟨.hbm, 94, rfl⟩
abbrev main_while0b_cst_22 : Ref sig .tc := ⟨.hbm, 95, rfl⟩
abbrev main_while0b_v51 : Ref sig .tc := ⟨.hbm, 96, rfl⟩
abbrev main_while0b_v52 : Ref sig .tc := ⟨.hbm, 97, rfl⟩
abbrev main_while0b_v53 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_v59 : Ref sig .tc := ⟨.hbm, 104, rfl⟩
abbrev main_while0b_v60 : Ref sig .tc := ⟨.hbm, 105, rfl⟩
abbrev main_while0b_v61 : Ref sig .tc := ⟨.hbm, 106, rfl⟩
abbrev main_while0b_v62 : Ref sig .tc := ⟨.hbm, 107, rfl⟩
abbrev main_while0b_v63 : Ref sig .tc := ⟨.hbm, 108, rfl⟩
abbrev main_while0b_v64 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_cst_23 : Ref sig .tc := ⟨.hbm, 115, rfl⟩
abbrev main_while0b_v70 : Ref sig .tc := ⟨.hbm, 116, rfl⟩
abbrev main_while0b_v71 : Ref sig .tc := ⟨.hbm, 117, rfl⟩
abbrev main_while0b_cst_24 : Ref sig .tc := ⟨.hbm, 118, rfl⟩
abbrev main_while0b_v72 : Ref sig .tc := ⟨.hbm, 119, rfl⟩
abbrev main_while0b_v73 : Ref sig .tc := ⟨.hbm, 120, rfl⟩
abbrev main_while0b_v74 : Ref sig .tc := ⟨.hbm, 121, rfl⟩
abbrev main_while0b_v75 : Ref sig .tc := ⟨.hbm, 122, rfl⟩
abbrev main_while0b_cst_25 : Ref sig .tc := ⟨.hbm, 123, rfl⟩
abbrev main_while0b_v76 : Ref sig .tc := ⟨.hbm, 124, rfl⟩
abbrev main_while0b_v77 : Ref sig .tc := ⟨.hbm, 125, rfl⟩
abbrev main_while0b_cst_26 : Ref sig .tc := ⟨.hbm, 126, rfl⟩
abbrev main_while0b_v78 : Ref sig .tc := ⟨.hbm, 127, rfl⟩
abbrev main_while0b_v79 : Ref sig .tc := ⟨.hbm, 128, rfl⟩
abbrev main_while0b_v80 : Ref sig .tc := ⟨.hbm, 129, rfl⟩
abbrev main_while0b_v81 : Ref sig .tc := ⟨.hbm, 130, rfl⟩
abbrev main_while0b_v82 : Ref sig .tc := ⟨.hbm, 131, rfl⟩
abbrev main_while0b_cst_27 : Ref sig .tc := ⟨.hbm, 132, rfl⟩
abbrev main_while0b_v83 : Ref sig .tc := ⟨.hbm, 133, rfl⟩
abbrev main_while0b_v84 : Ref sig .tc := ⟨.hbm, 134, rfl⟩
abbrev main_while0b_cst_28 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_v89 : Ref sig .tc := ⟨.hbm, 140, rfl⟩
abbrev main_while0b_v90 : Ref sig .tc := ⟨.hbm, 141, rfl⟩
abbrev main_while0b_v91 : Ref sig .tc := ⟨.hbm, 142, rfl⟩
abbrev main_while0b_c_29 : Ref sig .tc := ⟨.hbm, 143, rfl⟩
abbrev main_while0b_v92 : Ref sig .tc := ⟨.hbm, 144, rfl⟩
abbrev main_v7 : Ref sig .tc := ⟨.hbm, 145, rfl⟩
abbrev main_v8 : Ref sig .tc := ⟨.hbm, 146, rfl⟩
abbrev main_v9 : Ref sig .tc := ⟨.hbm, 147, rfl⟩
abbrev main_v10 : Ref sig .tc := ⟨.hbm, 148, rfl⟩
abbrev main_cst_3 : Ref sig .tc := ⟨.hbm, 149, rfl⟩
abbrev main_v11 : Ref sig .tc := ⟨.hbm, 150, rfl⟩
abbrev main_v12 : Ref sig .tc := ⟨.hbm, 151, rfl⟩
abbrev main_v13 : Ref sig .tc := ⟨.hbm, 152, rfl⟩
abbrev main_v14 : Ref sig .tc := ⟨.hbm, 153, rfl⟩
abbrev main_v15 : Ref sig .tc := ⟨.hbm, 154, rfl⟩
abbrev main_v16 : Ref sig .tc := ⟨.hbm, 155, rfl⟩
abbrev main_v17 : Ref sig .tc := ⟨.hbm, 156, rfl⟩
abbrev main_v18 : Ref sig .tc := ⟨.hbm, 157, rfl⟩
abbrev main_cst_4 : Ref sig .tc := ⟨.hbm, 158, rfl⟩
abbrev main_v19 : Ref sig .tc := ⟨.hbm, 159, rfl⟩
abbrev main_v20 : Ref sig .tc := ⟨.hbm, 160, rfl⟩
abbrev main_cst_5 : Ref sig .tc := ⟨.hbm, 161, rfl⟩
abbrev main_v21 : Ref sig .tc := ⟨.hbm, 162, rfl⟩
abbrev main_v22 : Ref sig .tc := ⟨.hbm, 163, rfl⟩

abbrev nD : Nat := 1
abbrev τ : Topo := Topo.v7x

variable {F : FTy → Type} [FloatOps F]

abbrev main_while0_count : Scf.Loop 32 := ⟨0#32, 80#32, 1#32⟩
-- ==== Proof.Setup.lean ====
/-
  The program as the launch theorem sees it: the SparseCore call and the TensorCore region in one @main, the
  algebra of the ghost state (the handshakes' rounds, the pipeline's rounds, the transfers' counters), and the
  three arrays of the gather.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import Idealize.ShloMosaic.Lib.ValueIdxCore

@[expose] public section

noncomputable section

namespace Cert.Proof

open Cert.KernelIdeal Cert.KernelIdeal.Gen

open Idealize.ShloMosaic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The handshakes' semaphores are distinct, none of them scoped; no shared buffer is scratch of a task. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, the staging cells' rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## The arrays of the gather -/

/-- The padded table, the list of row numbers and the gathered rows, on device `d`. -/
abbrev tLoc (d : Dev nD) : Loc nD τ sig := (SparseCore.T d).loc main_v1
abbrev iLoc (d : Dev nD) : Loc nD τ sig := (SparseCore.T d).loc main_v3
abbrev oLoc (d : Dev nD) : Loc nD τ sig := (SparseCore.T d).loc main_v4

/-- The row a word of the list names, any word reduced to a row of the table (the words met are below 10000). -/
def rowOf (w : BitVec 32) : Fin 10000 := ⟨w.toNat % 10000, Nat.mod_lt _ (by decide)⟩

/-- The gathered rows: row `r` is the table's row that word `r` of the list names. -/
def gath (tab : FVec F S10000x128 .f32) (ix : IVec S10240 32) : FVec F S10240x128 .f32 :=
  fun p => tab (ix2 (rowOf (ix (ix1 (p 0)))) (p 1))

end Cert.Proof

end
-- ==== Proof.Gather.lean ====
/-
  The SparseCore call: thirty-two tiles, each fetching its 320 words of the list, gathering the 320 rows of the table
  they name, and writing them out. A tile's run carries the gathered rows as a value; the tiles' pieces together are
  the gathered array.
-/
module

public import proofs.«01_k».proof.Proof.Setup
public import Idealize.ShloMosaic.Lib.VecWindow

@[expose] public section

noncomputable section

namespace Cert.Proof

open Cert.KernelIdeal Cert.KernelIdeal.Gen

open Idealize.ShloMosaic Idealize.ShloMosaic.ValueIdx
open Idealize.ShloMosaic.SparseCore (S V)
open Idealize.ShloMosaic.SparseCore.Cfg (HIx Pay mem_ownCells ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S10000x128 EltTy.f32)
local notation "iV" => (Memref.whole Cert.KernelIdeal.main_v3_scv : Memref Cert.KernelIdeal.sig Kind.scVector Space.hbm Cert.KernelIdeal.S10240 EltTy.i32)
local notation "oV" => (Memref.whole Cert.KernelIdeal.main_v4_scv : Memref Cert.KernelIdeal.sig Kind.scVector Space.hbm Cert.KernelIdeal.S10240x128 EltTy.f32)
local notation "sV" => (Memref.whole Cert.KernelIdeal.cc0_scratch0 : Memref Cert.KernelIdeal.sig Kind.scVector Space.vmem Cert.KernelIdeal.S320 EltTy.i32)
local notation "rV" => (Memref.whole Cert.KernelIdeal.cc0_scratch1 : Memref Cert.KernelIdeal.sig Kind.scVector Space.vmem Cert.KernelIdeal.S320x128 EltTy.f32)

/-! ## The thirty-two pieces -/

theorem idiv : 32 ∣ S10240.size 0 := ⟨320, rfl⟩
theorem odiv : 32 ∣ S10240x128.size 0 := ⟨320, rfl⟩
abbrev irow (w : Fin 32) : Rect S10240 := Rect.part (s := S10240) (a₀ := 0) idiv w
abbrev orow (w : Fin 32) : Rect S10240x128 := Rect.part (s := S10240x128) (a₀ := 0) odiv w
abbrev iRowSet (w : Fin 32) : Finset S10240.Idx := ((iV).view.slice (irow w)).set
abbrev oRowSet (w : Fin 32) : Finset S10240x128.Idx := ((oV).view.slice (orow w)).set

/-- The piece of tile `s` of SparseCore `c`. -/
def wid (c : Fin 2) (s : Fin 16) : Fin 32 := ⟨2 * s.val + c.val, by omega⟩

/-- The tiles are the pieces. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_) <;> simp only [wid] <;> omega
  right_inv w := Fin.ext (by simp only [wid]; omega)

/-- A tile's share of the table. -/
abbrev xq (w : Fin 32) : PosShare TreeShare := ShareLeaves.leaf 5 fullShare w

/-! ## What the handshakes carry -/

section Payload

variable (tab : (d : Dev nD) → Buf (Elt F) (tLoc d)) (ix : (d : Dev nD) → Buf (Elt F) (iLoc d)) (o₀ : (d : Dev nD) → Buf (Elt F) (oLoc d))

abbrev iRowPts (d : Dev nD) (w : Fin 32) : sProp 𝕄 := iLoc d ↦[iRowSet w]{fullShare} ix d
abbrev tShPts (d : Dev nD) (w : Fin 32) : sProp 𝕄 := tLoc d ↦{xq w} tab d
abbrev oRowPts (d : Dev nD) (w : Fin 32) (f : Buf (Elt F) (oLoc d)) : sProp 𝕄 := oLoc d ↦[oRowSet w]{fullShare} f

/-- What a tile is handed, and what it brings back: its piece of the list, its share of the table, and its piece of the
    result — as it stood, then at the gathered rows. -/
abbrev goPts (d : Dev nD) (w : Fin 32) : sProp 𝕄 := iprop(iRowPts ix d w ∗ tShPts tab d w ∗ oRowPts d w (o₀ d))
abbrev tdPts (d : Dev nD) (w : Fin 32) : sProp 𝕄 := iprop(iRowPts ix d w ∗ tShPts tab d w ∗ oRowPts d w (gath (tab d) (ix d)))

/-- A SparseCore takes its sixteen tiles' pieces and brings them back. -/
def P : (K (F := F)).Pay (nD := nD) (Val := Elt F) (Name := ℕ) (U := UU) where
  st := fun q d c => match q with
    | 0 => bigSep Finset.univ fun i : Fin ((K (F := F)).nSub 0) => goPts tab ix o₀ d (wid (Fin.cast nCore_zero c) (Fin.cast nSub_zero i))
  dn := fun q d c => match q with
    | 0 => bigSep Finset.univ fun i : Fin ((K (F := F)).nSub 0) => tdPts tab ix d (wid (Fin.cast nCore_zero c) (Fin.cast nSub_zero i))
  go := fun q d c i => match q with
    | 0 => goPts tab ix o₀ d (wid (Fin.cast nCore_zero c) (Fin.cast nSub_zero i))
  td := fun q d c i => match q with
    | 0 => tdPts tab ix d (wid (Fin.cast nCore_zero c) (Fin.cast nSub_zero i))
  x := fun _ _ => iprop(emp)

instance P_storable : (P (F := F) tab ix o₀).IsStorable where
  st q d c := match q with
    | 0 => (inferInstance : BI.Storable (upEmb : UEmb _ 𝕄)
        (bigSep Finset.univ fun i : Fin ((K (F := F)).nSub 0) => goPts tab ix o₀ d (wid (Fin.cast nCore_zero c) (Fin.cast nSub_zero i))))
  dn q d c := match q with
    | 0 => (inferInstance : BI.Storable (upEmb : UEmb _ 𝕄)
        (bigSep Finset.univ fun i : Fin ((K (F := F)).nSub 0) => tdPts tab ix d (wid (Fin.cast nCore_zero c) (Fin.cast nSub_zero i))))
  go q d c i := match q with
    | 0 => (inferInstance : BI.Storable (upEmb : UEmb _ 𝕄) (goPts tab ix o₀ d (wid (Fin.cast nCore_zero c) (Fin.cast nSub_zero i))))
  td q d c i := match q with
    | 0 => (inferInstance : BI.Storable (upEmb : UEmb _ 𝕄) (tdPts tab ix d (wid (Fin.cast nCore_zero c) (Fin.cast nSub_zero i))))

/-- What the proof asks of the list: each of its words names a row of the table. -/
def ListOK : Prop := ∀ (d : Dev nD) (j : S10240.Idx), ((ix d : S10240.Idx → BitVec 32) j).toNat < 10000

theorem vecSplit : (K (F := F)).VecSplit' (P tab ix o₀) 0 := by
  intro d c
  show (bigSep Finset.univ fun i : Fin ((K (F := F)).nSub 0) => goPts tab ix o₀ d (wid (Fin.cast nCore_zero c) (Fin.cast nSub_zero i)))
    ⊢ |={Set.univ}=> iprop(
      (bigSep Finset.univ fun i : Fin ((K (F := F)).nSub 0) => goPts tab ix o₀ d (wid (Fin.cast nCore_zero c) (Fin.cast nSub_zero i)))
      ∗ ((bigSep Finset.univ fun i : Fin ((K (F := F)).nSub 0) => tdPts tab ix d (wid (Fin.cast nCore_zero c) (Fin.cast nSub_zero i)))
          -∗ (bigSep Finset.univ fun i : Fin ((K (F := F)).nSub 0) => tdPts tab ix d (wid (Fin.cast nCore_zero c) (Fin.cast nSub_zero i)))))
  iintro H; imodintro
  isplitl [H]; · iexact H
  iintro H; iexact H

/-! ## A tile -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev irowK (L : grid0.Coords) : Rect S10240 := Rect.unit (s := S10240) (k0_off1 L) S320.size (k0_off1_inb L)
abbrev orowK (L : grid0.Coords) : Rect S10240x128 := Rect.unit (s := S10240x128) (k0_off2 L) S320x128.size (k0_off2_inb L)
/-- The tile's words of the list, its rows of the result, and all of the table, as the tile addresses them. -/
abbrev iRowK (L : grid0.Coords) : Memref sig .scVector .hbm S320 .i32 := (iV).slice (irowK L) (fun _ => rfl)
abbrev oRowK (L : grid0.Coords) : Memref sig .scVector .hbm S320x128 .f32 := (oV).slice (orowK L) (fun _ => rfl)
abbrev tAllK : Memref sig .scVector .hbm S10000x128 .f32 := (tV).slice (Rect.unit (s := S10000x128) ![0, 0] S10000x128.size inb_S10000x128_S10000x128_0_0) (fun _ => rfl)

theorem wL_val : (wL L).val = 2 * (L 1).val + (L 0).val := rfl

theorem irowK_eq : irowK L = irow (wL L) := by
  unfold irowK irow Rect.part Rect.block
  congr 1 <;> funext a
  · rw [k0_off1_eq]
    match a with
    | 0 =>
      simp only [Shape.partIx, Shape.partSize, ↓reduceIte, wL_val, Matrix.cons_val_zero]
      show 640 * (L 1).val + 320 * (L 0).val = _ * (10240 / 32)
      omega
  · match a with
    | 0 => simp [Shape.partSize]
theorem orowK_eq : orowK L = orow (wL L) := by
  unfold orowK orow Rect.part Rect.block
  congr 1 <;> funext a
  · rw [k0_off2_eq]
    match a with
    | 0 =>
      simp only [Shape.partIx, Shape.partSize, ↓reduceIte, wL_val, Matrix.cons_val_zero]
      show 640 * (L 1).val + 320 * (L 0).val = _ * (10240 / 32)
      omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The tile's three transfer semaphores are among its own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The words the tile fetched are words of the list, each in range. -/
theorem inb_of_list (hix : ListOK ix) (fs : Buf (Elt F) ((V d (cV L) (jV L)).loc cc0_scratch0)) (pay : S320.Idx → Elt F .i32)
    (hpay : pay = (iRowK L).view.read (Elt F) (ix d)) :
    ∀ x, ((sV).view.read (Elt F) (View.write (Elt F) (sV).view fs pay Finset.univ) x).toNat < S10000x128.size gathers_S10000x128_S320x128.axis := by
  subst hpay; intro x
  rw [View.write_whole_univ]
  simp only [Memref.view_whole, View.read_whole]
  rw [show ∀ j, (iRowK L).view.read (Elt F) (ix d) j = ix d ((iRowK L).view.emb j) from fun j => (View.read_apply _ _).trans (cast_eq _ _)]
  exact hix d _

omit [FloatOps F] in
/-- What the tile gathered, row by row, is its piece of the gathered array. -/
theorem gather_value (hix : ListOK ix) (lst : S320.Idx → BitVec 32) (hl : lst = (iRowK L).view.read (Elt F) (ix d))
    (hn : S320.numel = S320x128.size gathers_S10000x128_S320x128.axis')
    (hin : ∀ x, (lst x).toNat < S10000x128.size gathers_S10000x128_S320x128.axis) (x : S320x128.Idx) :
    SparseCore.gatherPayload (F := F) (e := .f32) gathers_S10000x128_S320x128 ((tAllK).view.read (Elt F) (tab d)) (SparseCore.rows (F := F) lst hn hin) x
      = gath (F := F) (tab d) (ix d) ((oRowK L).view.emb x) := by
  have hx0 : (x 0).val < 320 := (x 0).isLt
  have hsym : ((S320.rowMajor.symm ((x 0).cast hn.symm)) 0).val = (x 0).val :=
    (Shape.rowMajor_val_one (S320.rowMajor.symm ((x 0).cast hn.symm))).symm.trans (by rw [Equiv.apply_symm_apply]; rfl)
  have hw : lst (S320.rowMajor.symm ((x 0).cast hn.symm))
      = (ix d : S10240.Idx → BitVec 32) (ix1 (((oRowK L).view.emb x) 0)) := by
    subst hl
    refine ((View.read_apply _ _).trans (cast_eq _ _)).trans (congrArg (ix d : S10240.Idx → BitVec 32) ?_)
    funext a; apply Fin.ext
    match a with
    | 0 =>
      show k0_off1 L 0 + 1 * ((S320.rowMajor.symm ((x 0).cast hn.symm)) 0).val = k0_off2 L 0 + 1 * (x 0).val
      rw [hsym, k0_off1_eq, k0_off2_eq]; rfl
  unfold SparseCore.gatherPayload gath
  refine ((View.read_apply _ _).trans (cast_eq _ _)).trans (congrArg (tab d) ?_)
  funext a; apply Fin.ext
  match a with
  | 0 =>
    have e0 := congrArg Fin.val (Shape.Gathers.idx_axis gathers_S10000x128_S320x128 (SparseCore.rows (F := F) lst hn hin) x)
    have e1 : ((SparseCore.rows (F := F) lst hn hin) (x gathers_S10000x128_S320x128.axis')).val
        = (lst (S320.rowMajor.symm ((x 0).cast hn.symm))).toNat := rfl
    have e2 : ((tAllK).view.emb (gathers_S10000x128_S320x128.idx (SparseCore.rows (F := F) lst hn hin) x) 0).val
        = 0 + 1 * (Shape.Gathers.idx gathers_S10000x128_S320x128 (SparseCore.rows (F := F) lst hn hin) x gathers_S10000x128_S320x128.axis).val := rfl
    have e3 : (rowOf ((ix d : S10240.Idx → BitVec 32) (ix1 (((oRowK L).view.emb x) 0)))).val
        = ((ix d : S10240.Idx → BitVec 32) (ix1 (((oRowK L).view.emb x) 0))).toNat % 10000 := rfl
    refine e2.trans (Eq.trans ?_ e3.symm)
    rw [e0, e1, hw, Nat.mod_eq_of_lt (hix d _), Nat.zero_add, Nat.one_mul]
  | 1 =>
    have e0 := Shape.Gathers.idx_of_ne gathers_S10000x128_S320x128 (SparseCore.rows (F := F) lst hn hin) x 1 (by decide)
    show 0 + 1 * (Shape.Gathers.idx gathers_S10000x128_S320x128 (SparseCore.rows (F := F) lst hn hin) x 1).val = k0_off2 L 1 + 1 * (x 1).val
    rw [e0, k0_off2_eq]; rfl

omit [FloatOps F] in
/-- The tile's piece of the result, written with the gathered rows, is the gathered array's piece. -/
theorem out_value (w : S320x128.Idx → Elt F .f32) (hw : ∀ x, w x = gath (F := F) (tab d) (ix d) ((oRowK L).view.emb x)) :
    (oLoc d ↦[(oRowK L).view.set]{fullShare} (oRowK L).view.writes (Elt F) (o₀ d) [⟨Rect.whole S320x128, w⟩] : sProp 𝕄)
      = oLoc d ↦[(oRowK L).view.set]{fullShare} gath (F := F) (tab d) (ix d) := by
  refine pointsTo_congr fun p hp => ?_
  obtain ⟨x, -, rfl⟩ := Finset.mem_map.mp hp
  refine Eq.trans ?_ (hw x)
  have h := congrFun (View.read_writes_full (oRowK L).view (o₀ d) (off := fun _ => 0) (fun a => by simp) w []) x
  exact ((View.read_apply _ _).trans (cast_eq _ _)).symm.trans h

omit [FloatOps F] in
/-- The rows written out are the rows gathered. -/
theorem out_payload (hix : ListOK ix) (fs : Buf (Elt F) ((V d (cV L) (jV L)).loc cc0_scratch0)) (fr : Buf (Elt F) ((V d (cV L) (jV L)).loc cc0_scratch1))
    (hn : S320.numel = S320x128.size gathers_S10000x128_S320x128.axis') (hin) (x : S320x128.Idx) :
    (rV).view.read (Elt F) ((rV).view.writes (Elt F) fr [⟨Rect.whole S320x128,
      SparseCore.gatherPayload (F := F) (e := .f32) gathers_S10000x128_S320x128 ((tAllK).view.read (Elt F) (tab d))
        (SparseCore.rows (F := F) ((sV).view.read (Elt F) (View.write (Elt F) (sV).view fs ((iRowK L).view.read (Elt F) (ix d)) Finset.univ)) hn hin)⟩]) x
      = gath (F := F) (tab d) (ix d) ((oRowK L).view.emb x) := by
  refine (congrFun (View.read_writes_full (rV).view fr (off := fun _ => 0) (fun a => by simp) _ []) x).trans (gather_value tab ix d L hix _ ?_ hn hin x)
  rw [View.write_whole_univ]; rfl

set_option maxHeartbeats 4000000 in
/-- The task of a tile: fetch its words of the list, gather the rows of the table they name, write them out. -/
theorem tile_body (hF : (K (F := F)).Facts) (hix : ListOK ix) (O : CellTallies nD τ sig (HIx 1)) (W : Waits sig (HIx 1)) (hO : ∀ g, O g none = 0) :
    iprop(levAts (K (F := F)).L (K (F := F)).lev ∗ emp
        ∗ goPts tab ix o₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop(tdPts tab ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  have hin : ∀ (f : Buf (Elt F) ((V d (cV L) (jV L)).loc cc0_scratch0)) x,
      ((sV).view.read (Elt F) (View.write (Elt F) (sV).view f ((iRowK L).view.read (Elt F) (ix d)) Finset.univ) x).toNat
        < S10000x128.size gathers_S10000x128_S320x128.axis := fun f => inb_of_list ix d L hix f _ rfl
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (out_value tab ix o₀ d L _ (out_payload tab ix d L hix fs fr _ (hin fs)))); iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The coordinates of tile `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, as the launch asks it. -/
theorem tileObl (hF : (K (F := F)).Facts) (hix : ListOK ix) : (K (F := F)).TileObl (D (F := F)) 𝒱 (P tab ix o₀) v₀ 0 := by
  intro d c i O W hO _ _
  simp only [show (P tab ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ix o₀ d (coordsV ⟨_, hci.1⟩ ⟨_, hci.2⟩) hF hix O W hO).trans (wp_mono frame _ _ fun _ => obl_post)

end Tile

/-! ## The arrays are their pieces -/

theorem iRowSet_eq (i : Fin 32) : iRowSet i = (irow i).set := by
  show ((View.whole (main_v3_scv : Ref sig .scVector)).slice (irow i)).set = _
  rw [View.set_slice]; exact Finset.map_refl
theorem oRowSet_eq (i : Fin 32) : oRowSet i = (orow i).set := by
  show ((View.whole (main_v4_scv : Ref sig .scVector)).slice (orow i)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun i : Fin 32 => tLoc d ↦{xq i} f :=
  ShareLeaves.pointsTo_leaves Finset.univ f 5 fullShare

/-- Pieces over the tiles are pieces over the thirty-two. -/
theorem bigSep_tiles (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i))) = bigSep Finset.univ Φ := by
  rw [bigSep_univ_equiv widEquiv Φ]
  exact (bigSep_univ_prod (fun p : Fin 2 × Fin 16 => Φ (widEquiv p))).symm

/-- The call's operands, whole, are what its SparseCores take; what they bring back is the arrays again, the result at
    the gathered rows. -/
theorem st_eq (d : Dev nD) : (bigSep Finset.univ fun c : Fin ((K (F := F)).nCore 0) => (P tab ix o₀).st 0 d c)
    = iprop((iLoc d ↦{fullShare} ix d) ∗ (tLoc d ↦{fullShare} tab d) ∗ oLoc d ↦{fullShare} o₀ d) := by
  refine (bigSep_tiles (F := F) (fun w => goPts tab ix o₀ d w)).trans ?_
  rw [bigSep_sep', bigSep_sep', ← iPts_rows, ← tPts_shares, ← oPts_rows]
theorem dn_eq (d : Dev nD) : (bigSep Finset.univ fun c : Fin ((K (F := F)).nCore 0) => (P tab ix o₀).dn 0 d c)
    = iprop((iLoc d ↦{fullShare} ix d) ∗ (tLoc d ↦{fullShare} tab d) ∗ oLoc d ↦{fullShare} gath (tab d) (ix d)) := by
  refine (bigSep_tiles (F := F) (fun w => tdPts tab ix d w)).trans ?_
  rw [bigSep_sep', bigSep_sep', ← iPts_rows, ← tPts_shares, ← oPts_rows d (gath (tab d) (ix d))]

end Payload

end Cert.Proof

end
-- ==== Proof.Body.lean ====
/-
  The recurrent kernel's body: what its run leaves in the result's staging buffer, a function of the seven arrays it
  reads. The eighty trips of its loop are one invariant: before trip `k` the carried vectors are `tripsV … k`.
-/
module

public import proofs.«01_k».proof.Proof.Setup
public import Idealize.ShloMosaic.Lib.VecWindow
public import Idealize.ShloMosaic.Lib.Exec
public import proofs.«01_k».proof.Proof.Gen.KernelIdeal.Loops

@[expose] public section

set_option maxRecDepth 8192

noncomputable section

namespace Cert.Proof

open Cert.KernelIdeal Cert.KernelIdeal.Gen

open Idealize.ShloMosaic Idealize.ShloMosaic.ValueIdx Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The values -/

/-- Sixty-four rows of the gathered array, from row `o`. -/
def slab (xs : FVec F S10240x128 .f32) (o : ℕ) (h : o + 64 ≤ 10240) : FVec F S64x128 .f32 :=
  fun p => xs (ix2 ⟨o + (p 0).val, by have : (p 0).val < 64 := (p 0).isLt; omega⟩ (p 1))

/-- What the loop carries: h and c of the first half of the batch, h and c of the second, the second's next gates. -/
abbrev Carry (F : FTy → Type) : Type :=
  FVec F S64x128 .f32 × FVec F S64x128 .f32 × FVec F S64x128 .f32 × FVec F S64x128 .f32 × FVec F S64x512 .f32

/-- One trip. -/
def tripV (xs : FVec F S10240x128 .f32) (W : FVec F S256x512 .f32) (b : FVec F S1x512 .f32) (k : ℕ) (a : Carry F) : Carry F :=
  let xa := slab xs (128 * min (k + 1) 79) (by omega)
  let xb := slab xs (128 * min (k + 2) 79 + 64) (by omega)
  let hb := k1_pay6 a.2.2.2.1 a.2.2.2.2
  (k1_pay10 a.1 a.2.1 xa W b, k1_pay9 a.1 a.2.1 xa W b, hb, k1_pay5 a.2.2.2.1 a.2.2.2.2, k1_pay1 hb xb W b)

/-- The step before the loop. -/
def initV (xs : FVec F S10240x128 .f32) (W : FVec F S256x512 .f32) (b : FVec F S1x512 .f32) : Carry F :=
  let x0 : FVec F S128x128 .f32 := fun p => xs (ix2 ⟨(p 0).val, by have : (p 0).val < 128 := (p 0).isLt; omega⟩ (p 1))
  let w1 : FVec F S128x512 .f32 := fun p => W (ix2 ⟨128 + (p 0).val, by have : (p 0).val < 128 := (p 0).isLt; omega⟩ (p 1))
  let x1 := slab xs 192 (by omega)
  (k1_pay16 x0 w1 b, k1_pay17 x0 w1 b, k1_pay18 x0 w1 b, k1_pay19 x0 w1 b, k1_pay20 x0 w1 b x1 W b)

/-- The carried vectors before trip `k`. -/
def tripsV (xs : FVec F S10240x128 .f32) (W : FVec F S256x512 .f32) (b : FVec F S1x512 .f32) : ℕ → Carry F
  | 0 => initV xs W b
  | k + 1 => tripV xs W b k (tripsV xs W b k)

/-- What the body stores. -/
def bodyV (xs : FVec F S10240x128 .f32) (W : FVec F S256x512 .f32) (b : FVec F S1x512 .f32) (wd1 : FVec F S64x64 .f32)
    (bd1 : FVec F S1x64 .f32) (wd2 : FVec F S64x1 .f32) (bd2 : FVec F S1x1 .f32) : FVec F S128x1 .f32 :=
  k1_pay2 (tripsV xs W b 80).1 (tripsV xs W b 80).2.2.1 wd1 bd1 wd2 bd2

/-! ## The loop -/

theorem trips_eq : k1_t1_loop.trips = 80 := by decide +kernel

section Loop

variable (𝒱' : Variants) (c : Dev nD) (bd : Option 𝒱'.V)
  (arg0 : Memref sig .tc .vmem S10240x128 .f32) (harg0 : arg0.IsWhole) (arg1 : Memref sig .tc .vmem S256x512 .f32) (harg1 : arg1.IsWhole)
  (arg2 : Memref sig .tc .vmem S1x512 .f32) (harg2 : arg2.IsWhole) (arg3 : Memref sig .tc .vmem S64x64 .f32) (harg3 : arg3.IsWhole)
  (arg4 : Memref sig .tc .vmem S1x64 .f32) (harg4 : arg4.IsWhole) (arg5 : Memref sig .tc .vmem S64x1 .f32) (harg5 : arg5.IsWhole)
  (arg6 : Memref sig .tc .vmem S1x1 .f32) (harg6 : arg6.IsWhole) (arg7 : Memref sig .tc .vmem S128x1 .f32) (harg7 : arg7.IsWhole)

theorem load_a (X0 : BufTy.Contents (Elt F) arg0.view.ty) (k : Fin k1_t1_loop.trips) :
    arg0.view.readAt (Elt F) (Rect.unit (s := S10240x128) (k1_off1 k) S64x128.size (k1_off1_inb k)).toLoadRect X0
      = slab (arg0.view.read (Elt F) X0) (128 * min (k.val + 1) 79) (by omega) := by
  rw [View.readAt_unit arg0.view X0 (k1_off1_inb k) (k1_off1_eq k) (k1_off1_eq k ▸ k1_off1_inb k)]
  funext p
  refine congrArg (arg0.view.read (Elt F) X0) (funext fun a => Fin.ext ?_)
  match a with
  | 0 => exact congrArg (_ + ·) (Nat.one_mul _)
  | 1 => exact (Nat.zero_add _).trans (Nat.one_mul _)

theorem load_b (X0 : BufTy.Contents (Elt F) arg0.view.ty) (k : Fin k1_t1_loop.trips) :
    arg0.view.readAt (Elt F) (Rect.unit (s := S10240x128) (k1_off2 k) S64x128.size (k1_off2_inb k)).toLoadRect X0
      = slab (arg0.view.read (Elt F) X0) (128 * min (k.val + 2) 79 + 64) (by omega) := by
  rw [View.readAt_unit arg0.view X0 (k1_off2_inb k) (k1_off2_eq k) (k1_off2_eq k ▸ k1_off2_inb k)]
  funext p
  refine congrArg (arg0.view.read (Elt F) X0) (funext fun a => Fin.ext ?_)
  match a with
  | 0 => exact congrArg (_ + ·) (Nat.one_mul _)
  | 1 => exact (Nat.zero_add _).trans (Nat.one_mul _)

theorem load_first (X0 : BufTy.Contents (Elt F) arg0.view.ty) :
    arg0.view.readAt (Elt F) (Rect.unit (s := S10240x128) ![0, 0] S128x128.size inb_S10240x128_S128x128_0_0).toLoadRect X0
      = (fun p => arg0.view.read (Elt F) X0 (ix2 ⟨(p 0).val, by have : (p 0).val < 128 := (p 0).isLt; omega⟩ (p 1)) : FVec F S128x128 .f32) := by
  funext p
  refine congrArg (arg0.view.read (Elt F) X0) (funext fun a => Fin.ext ?_)
  match a with
  | 0 => exact (Nat.zero_add _).trans (Nat.one_mul _)
  | 1 => exact (Nat.zero_add _).trans (Nat.one_mul _)

theorem load_wx (X1 : BufTy.Contents (Elt F) arg1.view.ty) :
    arg1.view.readAt (Elt F) (Rect.unit (s := S256x512) ![128, 0] S128x512.size inb_S256x512_S128x512_128_0).toLoadRect X1
      = (fun p => arg1.view.read (Elt F) X1 (ix2 ⟨128 + (p 0).val, by have : (p 0).val < 128 := (p 0).isLt; omega⟩ (p 1)) : FVec F S128x512 .f32) := by
  funext p
  refine congrArg (arg1.view.read (Elt F) X1) (funext fun a => Fin.ext ?_)
  match a with
  | 0 => exact congrArg (_ + ·) (Nat.one_mul _)
  | 1 => exact (Nat.zero_add _).trans (Nat.one_mul _)

theorem load_x1 (X0 : BufTy.Contents (Elt F) arg0.view.ty) :
    arg0.view.readAt (Elt F) (Rect.unit (s := S10240x128) ![192, 0] S64x128.size inb_S10240x128_S64x128_192_0).toLoadRect X0
      = slab (arg0.view.read (Elt F) X0) 192 (by omega) := by
  funext p
  refine congrArg (arg0.view.read (Elt F) X0) (funext fun a => Fin.ext ?_)
  match a with
  | 0 => exact congrArg (_ + ·) (Nat.one_mul _)
  | 1 => exact (Nat.zero_add _).trans (Nat.one_mul _)

theorem writes_out (X7 : BufTy.Contents (Elt F) arg7.view.ty) (w : FVec F S128x1 .f32) :
    arg7.view.read (Elt F) (arg7.view.writes (Elt F) X7 [⟨Rect.unit ![0, 0] S128x1.size inb_S128x1_S128x1_0_0, w⟩]) = w :=
  View.read_writes_full arg7.view X7 inb_S128x1_S128x1_0_0 w []

/-- One trip's run. -/
theorem trip_run (X0 : BufTy.Contents (Elt F) arg0.view.ty) (X1 : BufTy.Contents (Elt F) arg1.view.ty) (X2 : BufTy.Contents (Elt F) arg2.view.ty)
    (k : Fin k1_t1_loop.trips) (E : Set ℕ) (acc : Carry F) :
    iprop((arg0.view.loc (c : Thread nD τ) ↦[arg0.view.set]{fullShare} X0) ∗ (arg1.view.loc (c : Thread nD τ) ↦[arg1.view.set]{fullShare} X1)
        ∗ (arg2.view.loc (c : Thread nD τ) ↦[arg2.view.set]{fullShare} X2))
      ⊢ (wp frame (wpE (defs₀ (F := F)) 𝒱' (c : Thread nD τ) bd) E (k1_t1_body (F := F) arg0 harg0 arg1 harg1 arg2 harg2 arg3 harg3 arg4 harg4 arg5 harg5 arg6 harg6 arg7 harg7 k acc)
          (fun yld => iprop(⌜yld = tripV (arg0.view.read (Elt F) X0) (arg1.view.read (Elt F) X1) (arg2.view.read (Elt F) X2) k.val acc⌝
            ∗ (arg0.view.loc (c : Thread nD τ) ↦[arg0.view.set]{fullShare} X0) ∗ (arg1.view.loc (c : Thread nD τ) ↦[arg1.view.set]{fullShare} X1)
            ∗ (arg2.view.loc (c : Thread nD τ) ↦[arg2.view.set]{fullShare} X2))) : sProp 𝕄) := by
  have hk : k.val < 80 := Nat.lt_of_lt_of_le k.isLt k1_t1_abs.2.1
  unfold k1_t1_body
  iintro ⟨H0, H1, H2⟩
  sl_exec
  sl_step
  isplitr
  · ipureintro
    unfold tripV
    rw [← load_a arg0 X0 k, ← load_b arg0 X0 k, ← View.readAt_full arg1.view X1 inb_S256x512_S256x512_0_0,
      ← View.readAt_full arg2.view X2 inb_S1x512_S1x512_0_0]
    rfl
  isplitl [H0]
  · iexact H0
  isplitl [H1]
  · iexact H1
  iexact H2

set_option warn.classDefReducibility false in
/-- The loop's invariant: the three arrays as they were, the carried vectors those of so many trips. -/
def loopInv (E : Set ℕ) (X0 : BufTy.Contents (Elt F) arg0.view.ty) (X1 : BufTy.Contents (Elt F) arg1.view.ty)
    (X2 : BufTy.Contents (Elt F) arg2.view.ty) (init : Carry F) :
    LoopInvTy_k1_t1 (F := F) (HIx 1) ℕ UU ℕ 𝒱' c bd E arg0 harg0 arg1 harg1 arg2 harg2 arg3 harg3 arg4 harg4 arg5 harg5 arg6 harg6 arg7 harg7 init where
  inv k acc := iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2)
    ∗ ⌜acc = tripsV (arg0.view.read (Elt F) X0) (arg1.view.read (Elt F) X1) (arg2.view.read (Elt F) X2) k⌝)
  step k acc := by
    iintro ⟨H0, H1, H2, %h⟩
    subst h
    iapply (wp_wand_r Idealize.ShloMosaic.frame (wpE (defs₀ (F := F)) 𝒱' (c : Thread nD τ) bd) E)
    isplitl [H0 H1 H2]
    · iapply (trip_run 𝒱' c bd arg0 harg0 arg1 harg1 arg2 harg2 arg3 harg3 arg4 harg4 arg5 harg5 arg6 harg6 arg7 harg7 X0 X1 X2 k E _)
      isplitl [H0]
      · iexact H0
      isplitl [H1]
      · iexact H1
      iexact H2
    · iintro %yld ⟨%hy, H0, H1, H2⟩
      isplitl [H0]
      · iexact H0
      isplitl [H1]
      · iexact H1
      isplitl [H2]
      · iexact H2
      ipureintro
      rw [hy]
      rfl

/-! ## The whole body -/

set_option maxHeartbeats 4000000 in
theorem body_run (X0 : BufTy.Contents (Elt F) arg0.view.ty) (X1 : BufTy.Contents (Elt F) arg1.view.ty) (X2 : BufTy.Contents (Elt F) arg2.view.ty)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (E : Set ℕ) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7))
      ⊢ (wp frame (wpE (defs₀ (F := F)) 𝒱' (c : Thread nD τ) bd) E (cc1__rnn_body (F := F) arg0 harg0 arg1 harg1 arg2 harg2 arg3 harg3 arg4 harg4 arg5 harg5 arg6 harg6 arg7 harg7)
          (fun _ => iprop(∃ Y : BufTy.Contents (Elt F) arg7.view.ty, (arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} Y) ∗ ⌜arg7.view.read (Elt F) Y
            = bodyV (arg0.view.read (Elt F) X0) (arg1.view.read (Elt F) X1) (arg2.view.read (Elt F) X2) (arg3.view.read (Elt F) X3)
                (arg4.view.read (Elt F) X4) (arg5.view.read (Elt F) X5) (arg6.view.read (Elt F) X6)⌝)) : sProp 𝕄) := by
  rw [cc1__rnn_body_eq_skeleton]
  iintro ⟨H0, H1, H2, H3, H4, H5, H6, H7⟩
  sl_exec
  have hi : (body_run.sl.r arg0 arg1 arg2 X0 X1 X2, body_run.sl.r_1 arg0 arg1 arg2 X0 X1 X2, body_run.sl.r_2 arg0 arg1 arg2 X0 X1 X2, body_run.sl.r_3 arg0 arg1 arg2 X0 X1 X2, body_run.sl.r_4 arg0 arg1 arg2 X0 X1 X2) = tripsV (arg0.view.read (Elt F) X0) (arg1.view.read (Elt F) X1) (arg2.view.read (Elt F) X2) 0 := by
    show _ = initV _ _ _
    unfold initV
    rw [← load_first arg0 X0, ← load_wx arg1 X1, ← load_x1 arg0 X0, ← View.readAt_full arg1.view X1 inb_S256x512_S256x512_0_0,
      ← View.readAt_full arg2.view X2 inb_S1x512_S1x512_0_0]
    rfl
  let L := loopInv (F := F) 𝒱' c bd arg0 harg0 arg1 harg1 arg2 harg2 arg3 harg3 arg4 harg4 arg5 harg5 arg6 harg6 arg7 harg7 E X0 X1 X2 (body_run.sl.r arg0 arg1 arg2 X0 X1 X2, body_run.sl.r_1 arg0 arg1 arg2 X0 X1 X2, body_run.sl.r_2 arg0 arg1 arg2 X0 X1 X2, body_run.sl.r_3 arg0 arg1 arg2 X0 X1 X2, body_run.sl.r_4 arg0 arg1 arg2 X0 X1 X2)
  sl_exec
  sl_step
  iexists _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  ipureintro
  rw [writes_out arg7 X7, View.readAt_full arg3.view X3 inb_S64x64_S64x64_0_0, View.readAt_full arg4.view X4 inb_S1x64_S1x64_0_0,
    View.readAt_full arg5.view X5 inb_S64x1_S64x1_0_0, View.readAt_full arg6.view X6 inb_S1x1_S1x1_0_0]
  have e : Scf.trips k1_t1_loop.lb k1_t1_loop.ub k1_t1_loop.st = 80 := trips_eq
  rw [e]
  rfl

end Loop

end Cert.Proof

end
-- ==== Proof.Region.lean ====
/-
  The TensorCore region: the recurrent kernel's seven arrays are fetched whole, its body run once, its result written back
  whole. Entered from the buffers held at contents `V d`, it leaves them at `outV V d` — the same but for the result.
-/
module

public import proofs.«01_k».proof.Proof.Body
public import proofs.«01_k».proof.Proof.Gen.KernelIdeal.Points
public import Idealize.ShloMosaic.Lib.Pipeline.RegionArraysS
public import Idealize.ShloMosaic.Lib.Pipeline.ValueKit

@[expose] public section

set_option maxRecDepth 8192

noncomputable section

namespace Cert.Proof

open Cert.KernelIdeal Cert.KernelIdeal.Gen

open Idealize.ShloMosaic Idealize.ShloMosaic.ValueIdx Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F]

local notation "𝕄" => MT nD τ sig (HIx 1) (Elt F) ℕ UU ℕ

variable (V : Dev nD → Valuation τ sig (Elt F))

/-! ## The proof data -/

/-- A TensorCore buffer's contents at `V`, on device `d`. -/
abbrev at_ (d : Dev nD) (b : Ref sig .tc) : b.ty.Contents (Elt F) := V d (Proc.devRef .tc b)

/-- The result, from the seven arrays read. -/
def outV (d : Dev nD) : FVec F S128x1 .f32 :=
  bodyV (at_ V d main_v4) (at_ V d main_v81) (at_ V d main_v83) (at_ V d main_arg8) (at_ V d main_v84) (at_ V d main_arg10) (at_ V d main_v85)

/-- The arrays at `V`; after the body the inputs' stages as fetched, the result's at `outV`; nothing owed. -/
def dat (c : Dev nD) : Pipeline.Dat τ (Elt F) (HIx 1) ℕ UU ℕ cfg1 c where
  A w := V c (Proc.devRef .tc (Pipeline.arrRef cfg1.spec w))
  after w _ := match w with
    | ⟨0, _⟩ => at_ V c main_v4
    | ⟨1, _⟩ => at_ V c main_v81
    | ⟨2, _⟩ => at_ V c main_v83
    | ⟨3, _⟩ => at_ V c main_arg8
    | ⟨4, _⟩ => at_ V c main_v84
    | ⟨5, _⟩ => at_ V c main_arg10
    | ⟨6, _⟩ => at_ V c main_v85
    | ⟨7, _⟩ => outV V c
  Φ _ := iprop(emp)
  q _ := fullShare
  owed _ := 0

abbrev adm : (p : Fin 1) → (pcfgs (F := F) p).Adm := fun p => (cfgs p).toPCfg_adm

def pdats : (p : Fin 1) → (c : Dev nD) → Pipeline.Dat τ (Elt F) (HIx 1) ℕ UU ℕ (Pipeline.pin (pcfgs (F := F)) adm p) c
  | 0 => dat V

/-! ## The body at its point -/

/-- A whole-array window's stage holds its array. -/
theorem read_whole_block (c : Dev nD) (w : Fin 8) (hx : ∀ a, (cfg1.win w).index t1_0 a = 0) (y : ((cfg1.win w).xblock (cfg1.grid.coords t1_0)).Idx)
    (a : Fin (cfg1.win w).shape.rank) : (((cfg1.win w).rect t1_0).emb y a : ℕ) = y a :=
  Pipeline.Window.rect_emb_val_of_index_zero (cfg1.win w) t1_0 a (hx a) y

theorem before_0 (c : Dev nD) (d) : (dat V c).before 0 t1_0 d = at_ V c main_v4 := by
  rw [(dat V c).before_fetched _ t1_0 (fetch1_0 t1_0)]
  funext y
  show (dat V c).blockOf 0 t1_0 y = _
  exact congrArg (at_ V c main_v4) (funext fun a => Fin.ext (read_whole_block c 0 (by decide +kernel) y a))

theorem before_1 (c : Dev nD) (d) : (dat V c).before 1 t1_0 d = at_ V c main_v81 := by
  rw [(dat V c).before_fetched _ t1_0 (fetch1_1 t1_0)]
  funext y
  show (dat V c).blockOf 1 t1_0 y = _
  exact congrArg (at_ V c main_v81) (funext fun a => Fin.ext (read_whole_block c 1 (by decide +kernel) y a))

theorem before_2 (c : Dev nD) (d) : (dat V c).before 2 t1_0 d = at_ V c main_v83 := by
  rw [(dat V c).before_fetched _ t1_0 (fetch1_2 t1_0)]
  funext y
  show (dat V c).blockOf 2 t1_0 y = _
  exact congrArg (at_ V c main_v83) (funext fun a => Fin.ext (read_whole_block c 2 (by decide +kernel) y a))

theorem before_3 (c : Dev nD) (d) : (dat V c).before 3 t1_0 d = at_ V c main_arg8 := by
  rw [(dat V c).before_fetched _ t1_0 (fetch1_3 t1_0)]
  funext y
  show (dat V c).blockOf 3 t1_0 y = _
  exact congrArg (at_ V c main_arg8) (funext fun a => Fin.ext (read_whole_block c 3 (by decide +kernel) y a))

theorem before_4 (c : Dev nD) (d) : (dat V c).before 4 t1_0 d = at_ V c main_v84 := by
  rw [(dat V c).before_fetched _ t1_0 (fetch1_4 t1_0)]
  funext y
  show (dat V c).blockOf 4 t1_0 y = _
  exact congrArg (at_ V c main_v84) (funext fun a => Fin.ext (read_whole_block c 4 (by decide +kernel) y a))

theorem before_5 (c : Dev nD) (d) : (dat V c).before 5 t1_0 d = at_ V c main_arg10 := by
  rw [(dat V c).before_fetched _ t1_0 (fetch1_5 t1_0)]
  funext y
  show (dat V c).blockOf 5 t1_0 y = _
  exact congrArg (at_ V c main_arg10) (funext fun a => Fin.ext (read_whole_block c 5 (by decide +kernel) y a))

theorem before_6 (c : Dev nD) (d) : (dat V c).before 6 t1_0 d = at_ V c main_v85 := by
  rw [(dat V c).before_fetched _ t1_0 (fetch1_6 t1_0)]
  funext y
  show (dat V c).blockOf 6 t1_0 y = _
  exact congrArg (at_ V c main_v85) (funext fun a => Fin.ext (read_whole_block c 6 (by decide +kernel) y a))

theorem arrAt_out (c : Dev nD) : (dat V c).arrAt 7 cfg1.N = outV V c := by
  refine (dat V c).arrAt_eq_of_after_last 7 t1_0 (by decide +kernel) _ fun j => ?_
  rfl

set_option maxHeartbeats 4000000 in
theorem body_obligation (c : Dev nD) : BodyObligation (dat V c) (defs₀ (F := F)) 𝒱₀ none Set.univ := fun t => by
  obtain rfl := fin_N1 t
  rw [bigSep_W1, bigSep_W1]
  simp only [owns]
  rw [show (dat V c).Φ t1_0.castSucc = iprop(emp) from rfl, show (dat V c).Φ t1_0.succ = iprop(emp) from rfl,
    show (dat V c).owesAt none t1_0.succ = (dat V c).owesAt none t1_0.castSucc from rfl]
  iintro ⟨-, HO, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, %hf7, H7⟩⟩
  rw [before_0] at hf0; rw [before_1] at hf1; rw [before_2] at hf2; rw [before_3] at hf3; rw [before_4] at hf4; rw [before_5] at hf5; rw [before_6] at hf6
  iapply (wp_wand_r Idealize.ShloMosaic.frame (wpE (defs₀ (F := F)) 𝒱₀ (c : Thread nD τ) none) Set.univ)
  isplitl [H0 H1 H2 H3 H4 H5 H6 H7]
  · iapply (body_run 𝒱₀ c none (Memref.whole cc1_stg0_0) (hstage1_0 0) (Memref.whole cc1_stg1_0) (hstage1_1 0) (Memref.whole cc1_stg2_0) (hstage1_2 0)
      (Memref.whole cc1_stg3_0) (hstage1_3 0) (Memref.whole cc1_stg4_0) (hstage1_4 0) (Memref.whole cc1_stg5_0) (hstage1_5 0)
      (Memref.whole cc1_stg6_0) (hstage1_6 0) (Memref.whole cc1_stg7_0) (hstage1_7 0) f0 f1 f2 f3 f4 f5 f6 f7 Set.univ)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    iexact H7
  · iintro %u ⟨%Y, H0, H1, H2, H3, H4, H5, H6, H7, %hY⟩
    isplitr
    · iempintro
    isplitl [HO]
    · iexact HO
    isplitl [H0]
    · iexists f0
      isplitr
      · ipureintro
        exact hf0
      iexact H0
    isplitl [H1]
    · iexists f1
      isplitr
      · ipureintro
        exact hf1
      iexact H1
    isplitl [H2]
    · iexists f2
      isplitr
      · ipureintro
        exact hf2
      iexact H2
    isplitl [H3]
    · iexists f3
      isplitr
      · ipureintro
        exact hf3
      iexact H3
    isplitl [H4]
    · iexists f4
      isplitr
      · ipureintro
        exact hf4
      iexact H4
    isplitl [H5]
    · iexists f5
      isplitr
      · ipureintro
        exact hf5
      iexact H5
    isplitl [H6]
    · iexists f6
      isplitr
      · ipureintro
        exact hf6
      iexact H6
    iexists Y
    isplitr
    · ipureintro
      refine hY.trans ?_
      rw [show View.read (Elt F) (Memref.whole cc1_stg0_0).view f0 = _ from hf0, show View.read (Elt F) (Memref.whole cc1_stg1_0).view f1 = _ from hf1,
        show View.read (Elt F) (Memref.whole cc1_stg2_0).view f2 = _ from hf2, show View.read (Elt F) (Memref.whole cc1_stg3_0).view f3 = _ from hf3,
        show View.read (Elt F) (Memref.whole cc1_stg4_0).view f4 = _ from hf4, show View.read (Elt F) (Memref.whole cc1_stg5_0).view f5 = _ from hf5,
        show View.read (Elt F) (Memref.whole cc1_stg6_0).view f6 = _ from hf6]
      rfl
    iexact H7

/-! ## The region -/

/-- What rides through the region untouched beside the buffers. -/
def region (R : Dev nD → sProp 𝕄) :
    Pipeline.RegionSeg (Name := ℕ) (U := UU) (pcfgs (F := F)) adm (pdats V) none defs₀ 𝒱₀ (K (F := F)).L (K (F := F)).lev 0 :=
  Pipeline.RegionSeg.ofHeldIn (pcfgs (F := F)) adm (pdats V) none defs₀ 𝒱₀ (K (F := F)).L (K (F := F)).lev 0 (fun _ => 0)
    (Pipeline.ucRefs τ sig) (fun _ => iprop(emp)) (fun _ => iprop(emp)) launch1.toP rfl (fun c => (body_obligation V c).loose)
    (fun _ _ => rfl) (fun _ => rfl) (fun c => (pdats V 0 c).share_full fun _ => rfl)
    (fun c => by
      iintro -
      iempintro)
    (fun c => by
      rw [show Pipeline.scopedRest (Pipeline.pin (pcfgs (F := F)) adm 0).spec c = (BI.emp : sProp 𝕄) from scopedRest1_eq c]
      iintro -
      isplitr
      · iempintro
      iempintro)
    (fun _ => 0)
    ⟨fun _ _ _ => Finset.mem_univ _, fun _ _ _ => le_rfl, fun _ _ _ h => absurd h (Nat.lt_irrefl 0)⟩
    R V (fun c w => rfl)

end Cert.Proof

end
-- ==== Proof.HostOps.lean ====
/-
  The TensorCore's own operations around the two kernels, as three lists run in order, and the program as those lists with
  the gather after the first and the recurrent kernel after the last.
-/
module

public import proofs.«01_k».proof.Proof.Region
public import Idealize.ShloMosaic.Lib.StableHlo.RunRead

@[expose] public section

set_option maxRecDepth 8192

noncomputable section

namespace Cert.Proof

open Cert.KernelIdeal Cert.KernelIdeal.Gen

open Idealize.ShloMosaic Idealize.ShloMosaic.ValueIdx Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The host operations before the gather: the table padded to 128 columns, the indices in time-major order. -/
abbrev opsIn : List (HloOp τ sig (Elt F)) :=
  [ StableHlo.nullary main_cst (constant S_ .f32 0x00000000#32),
    StableHlo.unary main_cst main_v0 (broadcastInDim S10000x28 ![] bcast_S_S10000x28 : (⟨S_, .f32⟩ : BufTy).Contents (Elt F) → (⟨S10000x28, .f32⟩ : BufTy).Contents (Elt F)),
    StableHlo.binary main_arg1 main_v0 main_v1 ((fun a b => concatenate S10000x128 1 [⟨S10000x100, a⟩, ⟨S10000x28, b⟩] concatenates_S10000x100_S10000x28_S10000x128_d1) : (⟨S10000x100, .f32⟩ : BufTy).Contents (Elt F) → (⟨S10000x28, .f32⟩ : BufTy).Contents (Elt F) → (⟨S10000x128, .f32⟩ : BufTy).Contents (Elt F)),
    StableHlo.unary main_arg0 main_v2 ((transpose S80x128 [1, 0] · transposes_S128x80_S80x128_1_0) : (⟨S128x80, .i32⟩ : BufTy).Contents (Elt F) → (⟨S80x128, .i32⟩ : BufTy).Contents (Elt F)),
    StableHlo.reshape main_v2 main_v3 (rfl : (.i32 : EltTy) = .i32) shapeCasts_S80x128_S10240 ]

/-- The host operations after the gather, up to the forget gate’s half: the packed weights’ first blocks. -/
abbrev opsPackA : List (HloOp τ sig (Elt F)) :=
  [ StableHlo.nullary main_cst_0 (constant S_ .f32 0x00000000#32),
    StableHlo.unary main_cst_0 main_v5 (broadcastInDim S28x256 ![] bcast_S_S28x256 : (⟨S_, .f32⟩ : BufTy).Contents (Elt F) → (⟨S28x256, .f32⟩ : BufTy).Contents (Elt F)),
    StableHlo.binary main_arg2 main_v5 main_v6 ((fun a b => concatenate S128x256 0 [⟨S100x256, a⟩, ⟨S28x256, b⟩] concatenates_S100x256_S28x256_S128x256_d0) : (⟨S100x256, .f32⟩ : BufTy).Contents (Elt F) → (⟨S28x256, .f32⟩ : BufTy).Contents (Elt F) → (⟨S128x256, .f32⟩ : BufTy).Contents (Elt F)),
    StableHlo.nullary main_cst_1 (constant S_ .f32 0x00000000#32),
    StableHlo.unary main_cst_1 main_v7 (broadcastInDim S64x64 ![] bcast_S_S64x64 : (⟨S_, .f32⟩ : BufTy).Contents (Elt F) → (⟨S64x64, .f32⟩ : BufTy).Contents (Elt F)),
    StableHlo.nullary main_cst_2 (constant S_ .f32 0x00000000#32),
    StableHlo.unary main_cst_2 main_v8 (broadcastInDim S128x64 ![] bcast_S_S128x64 : (⟨S_, .f32⟩ : BufTy).Contents (Elt F) → (⟨S128x64, .f32⟩ : BufTy).Contents (Elt F)),
    StableHlo.unary main_arg3 main_v9 ((extractStridedSlice S64x64 ![0, 0] · slices_S64x256_S64x64_0_0) : (⟨S64x256, .f32⟩ : BufTy).Contents (Elt F) → (⟨S64x64, .f32⟩ : BufTy).Contents (Elt F)),
    StableHlo.unary main_v6 main_v10 ((extractStridedSlice S128x64 ![0, 0] · slices_S128x256_S128x64_0_0) : (⟨S128x256, .f32⟩ : BufTy).Contents (Elt F) → (⟨S128x64, .f32⟩ : BufTy).Contents (Elt F)),
    StableHlo.nary ![main_v9, main_v7, main_v10] main_v11 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.nullary main_cst_3 (constant S_ .f32 0x3F000000#32),
    StableHlo.unary main_cst_3 main_v12 (broadcastInDim S256x64 ![] bcast_S_S256x64 : (⟨S_, .f32⟩ : BufTy).Contents (Elt F) → (⟨S256x64, .f32⟩ : BufTy).Contents (Elt F)),
    StableHlo.binary main_v12 main_v11 main_v13 (mulf : (⟨S256x64, .f32⟩ : BufTy).Contents (Elt F) → (⟨S256x64, .f32⟩ : BufTy).Contents (Elt F) → (⟨S256x64, .f32⟩ : BufTy).Contents (Elt F)),
    StableHlo.unary main_arg5 main_v14 ((extractStridedSlice S64x64 ![0, 0] · slices_S64x256_S64x64_0_0) : (⟨S64x256, .f32⟩ : BufTy).Contents (Elt F) → (⟨S64x64, .f32⟩ : BufTy).Contents (Elt F)),
    StableHlo.nullary main_cst_4 (constant S_ .f32 0x3F000000#32),
    StableHlo.unary main_cst_4 main_v15 (broadcastInDim S64x64 ![] bcast_S_S64x64 : (⟨S_, .f32⟩ : BufTy).Contents (Elt F) → (⟨S64x64, .f32⟩ : BufTy).Contents (Elt F)),
    StableHlo.binary main_v15 main_v14 main_v16 (mulf : (⟨S64x64, .f32⟩ : BufTy).Contents (Elt F) → (⟨S64x64, .f32⟩ : BufTy).Contents (Elt F) → (⟨S64x64, .f32⟩ : BufTy).Contents (Elt F)),
    StableHlo.unary main_arg6 main_v17 ((extractStridedSlice S64x64 ![0, 0] · slices_S64x256_S64x64_0_0) : (⟨S64x256, .f32⟩ : BufTy).Contents (Elt F) → (⟨S64x64, .f32⟩ : BufTy).Contents (Elt F)),
    StableHlo.nullary main_cst_5 (constant S_ .f32 0x3F000000#32),
    StableHlo.unary main_cst_5 main_v18 (broadcastInDim S64x64 ![] bcast_S_S64x64 : (⟨S_, .f32⟩ : BufTy).Contents (Elt F) → (⟨S64x64, .f32⟩ : BufTy).Contents (Elt F)),
    StableHlo.binary main_v18 main_v17 main_v19 (mulf : (⟨S64x64, .f32⟩ : BufTy).Contents (Elt F) → (⟨S64x64, .f32⟩ : BufTy).Contents (Elt F) → (⟨S64x64, .f32⟩ : BufTy).Contents (Elt F)),
    StableHlo.nary ![main_v16, main_v19, main_v8] main_v20 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.unary main_arg4 main_v21 ((extractStridedSlice S64 ![0] · slices_S256_S64_0) : (⟨S256, .f32⟩ : BufTy).Contents (Elt F) → (⟨S64, .f32⟩ : BufTy).Contents (Elt F)),
    StableHlo.nullary main_cst_6 (constant S_ .f32 0x3F000000#32),
    StableHlo.unary main_cst_6 main_v22 (broadcastInDim S64 ![] bcast_S_S64 : (⟨S_, .f32⟩ : BufTy).Contents (Elt F) → (⟨S64, .f32⟩ : BufTy).Contents (Elt F)),
    StableHlo.binary main_v22 main_v21 main_v23 (mulf : (⟨S64, .f32⟩ : BufTy).Contents (Elt F) → (⟨S64, .f32⟩ : BufTy).Contents (Elt F) → (⟨S64, .f32⟩ : BufTy).Contents (Elt F)),
    StableHlo.unary main_arg7 main_v24 ((extractStridedSlice S64 ![0] · slices_S256_S64_0) : (⟨S256, .f32⟩ : BufTy).Contents (Elt F) → (⟨S64, .f32⟩ : BufTy).Contents (Elt F)),
    StableHlo.nullary main_cst_7 (constant S_ .f32 0x3F000000#32),
    StableHlo.unary main_cst_7 main_v25 (broadcastInDim S64 ![] bcast_S_S64 : (⟨S_, .f32⟩ : BufTy).Contents (Elt F) → (⟨S64, .f32⟩ : BufTy).Contents (Elt F)),
    StableHlo.binary main_v25 main_v24 main_v26 (mulf : (⟨S64, .f32⟩ : BufTy).Contents (Elt F) → (⟨S64, .f32⟩ : BufTy).Contents (Elt F) → (⟨S64, .f32⟩ : BufTy).Contents (Elt F)),
    StableHlo.unary main_arg3 main_v27 ((extractStridedSlice S64x64 ![0, 64] · slices_S64x256_S64x64_0_64) : (⟨S64x256, .f32⟩ : BufTy).Contents (Elt F) → (⟨S64x64, .f32⟩ : BufTy).Contents (Elt F)),
    StableHlo.unary main_v6 main_v28 ((extractStridedSlice S128x64 ![0, 64] · slices_S128x256_S128x64_0_64) : (⟨S128x256, .f32⟩ : BufTy).Contents (Elt F) → (⟨S128x64, .f32⟩ : BufTy).Contents (Elt F)),
    StableHlo.nary ![main_v27, main_v7, main_v28] main_v29 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.nullary main_cst_8 (constant S_ .f32 0x3F000000#32),
    StableHlo.unary main_cst_8 main_v30 (broadcastInDim S256x64 ![] bcast_S_S256x64 : (⟨S_, .f32⟩ : BufTy).Contents (Elt F) → (⟨S256x64, .f32⟩ : BufTy).Contents (Elt F)),
    StableHlo.binary main_v30 main_v29 main_v31 (mulf : (⟨S256x64, .f32⟩ : BufTy).Contents (Elt F) → (⟨S256x64, .f32⟩ : BufTy).Contents (Elt F) → (⟨S256x64, .f32⟩ : BufTy).Contents (Elt F)),
    StableHlo.unary main_arg5 main_v32 ((extractStridedSlice S64x64 ![0, 64] · slices_S64x256_S64x64_0_64) : (⟨S64x256, .f32⟩ : BufTy).Contents (Elt F) → (⟨S64x64, .f32⟩ : BufTy).Contents (Elt F)),
    StableHlo.nullary main_cst_9 (constant S_ .f32 0x3F000000#32),
    StableHlo.unary main_cst_9 main_v33 (broadcastInDim S64x64 ![] bcast_S_S64x64 : (⟨S_, .f32⟩ : BufTy).Contents (Elt F) → (⟨S64x64, .f32⟩ : BufTy).Contents (Elt F)),
    StableHlo.binary main_v33 main_v32 main_v34 (mulf : (⟨S64x64, .f32⟩ : BufTy).Contents (Elt F) → (⟨S64x64, .f32⟩ : BufTy).Contents (Elt F) → (⟨S64x64, .f32⟩ : BufTy).Contents (Elt F)),
    StableHlo.unary main_arg6 main_v35 ((extractStridedSlice S64x64 ![0, 64] · slices_S64x256_S64x64_0_64) : (⟨S64x256, .f32⟩ : BufTy).Contents (Elt F) → (⟨S64x64, .f32⟩ : BufTy).Contents (Elt F)),
    StableHlo.nullary main_cst_10 (constant S_ .f32 0x3F000000#32),
    StableHlo.unary main_cst_10 main_v36 (broadcastInDim S64x64 ![] bcast_S_S64x64 : (⟨S_, .f32⟩ : BufTy).Contents (Elt F) → (⟨S64x64, .f32⟩ : BufTy).Contents (Elt F)),
    StableHlo.binary main_v36 main_v35 main_v37 (mulf : (⟨S64x64, .f32⟩ : BufTy).Contents (Elt F) → (⟨S64x64, .f32⟩ : BufTy).Contents (Elt F) → (⟨S64x64, .f32⟩ : BufTy).Contents (Elt F)),
    StableHlo.nary ![main_v34, main_v37, main_v8] main_v38 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.unary main_arg4 main_v39 ((extractStridedSlice S64 ![64] · slices_S256_S64_64) : (⟨S256, .f32⟩ : BufTy).Contents (Elt F) → (⟨S64, .f32⟩ : BufTy).Contents (Elt F)),
    StableHlo.nullary main_cst_11 (constant S_ .f32 0x3F000000#32),
    StableHlo.unary main_cst_11 main_v40 (broadcastInDim S64 ![] bcast_S_S64 : (⟨S_, .f32⟩ : BufTy).Contents (Elt F) → (⟨S64, .f32⟩ : BufTy).Contents (Elt F)),
    StableHlo.binary main_v40 main_v39 main_v41 (mulf : (⟨S64, .f32⟩ : BufTy).Contents (Elt F) → (⟨S64, .f32⟩ : BufTy).Contents (Elt F) → (⟨S64, .f32⟩ : BufTy).Contents (Elt F)),
    StableHlo.unary main_arg7 main_v42 ((extractStridedSlice S64 ![64] · slices_S256_S64_64) : (⟨S256, .f32⟩ : BufTy).Contents (Elt F) → (⟨S64, .f32⟩ : BufTy).Contents (Elt F)),
    StableHlo.nullary main_cst_12 (constant S_ .f32 0x3F000000#32),
    StableHlo.unary main_cst_12 main_v43 (broadcastInDim S64 ![] bcast_S_S64 : (⟨S_, .f32⟩ : BufTy).Contents (Elt F) → (⟨S64, .f32⟩ : BufTy).Contents (Elt F)),
    StableHlo.binary main_v43 main_v42 main_v44 (mulf : (⟨S64, .f32⟩ : BufTy).Contents (Elt F) → (⟨S64, .f32⟩ : BufTy).Contents (Elt F) → (⟨S64, .f32⟩ : BufTy).Contents (Elt F)),
    StableHlo.unary main_arg3 main_v45 ((extractStridedSlice S64x64 ![0, 128] · slices_S64x256_S64x64_0_128) : (⟨S64x256, .f32⟩ : BufTy).Contents (Elt F) → (⟨S64x64, .f32⟩ : BufTy).Contents (Elt F)) ]

/-- The host operations after those, up to the recurrent kernel: the packed weights’ other blocks, and the packing. -/
abbrev opsPackB : List (HloOp τ sig (Elt F)) :=
  [ StableHlo.unary main_v6 main_v46 ((extractStridedSlice S128x64 ![0, 128] · slices_S128x256_S128x64_0_128) : (⟨S128x256, .f32⟩ : BufTy).Contents (Elt F) → (⟨S128x64, .f32⟩ : BufTy).Contents (Elt F)),
    StableHlo.nary ![main_v45, main_v7, main_v46] main_v47 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.nullary main_cst_13 (constant S_ .f32 0x3F800000#32),
    StableHlo.unary main_cst_13 main_v48 (broadcastInDim S256x64 ![] bcast_S_S256x64 : (⟨S_, .f32⟩ : BufTy).Contents (Elt F) → (⟨S256x64, .f32⟩ : BufTy).Contents (Elt F)),
    StableHlo.binary main_v48 main_v47 main_v49 (mulf : (⟨S256x64, .f32⟩ : BufTy).Contents (Elt F) → (⟨S256x64, .f32⟩ : BufTy).Contents (Elt F) → (⟨S256x64, .f32⟩ : BufTy).Contents (Elt F)),
    StableHlo.unary main_arg5 main_v50 ((extractStridedSlice S64x64 ![0, 128] · slices_S64x256_S64x64_0_128) : (⟨S64x256, .f32⟩ : BufTy).Contents (Elt F) → (⟨S64x64, .f32⟩ : BufTy).Contents (Elt F)),
    StableHlo.nullary main_cst_14 (constant S_ .f32 0x3F800000#32),
    StableHlo.unary main_cst_14 main_v51 (broadcastInDim S64x64 ![] bcast_S_S64x64 : (⟨S_, .f32⟩ : BufTy).Contents (Elt F) → (⟨S64x64, .f32⟩ : BufTy).Contents (Elt F)),
    StableHlo.binary main_v51 main_v50 main_v52 (mulf : (⟨S64x64, .f32⟩ : BufTy).Contents (Elt F) → (⟨S64x64, .f32⟩ : BufTy).Contents (Elt F) → (⟨S64x64, .f32⟩ : BufTy).Contents (Elt F)),
    StableHlo.unary main_arg6 main_v53 ((extractStridedSlice S64x64 ![0, 128] · slices_S64x256_S64x64_0_128) : (⟨S64x256, .f32⟩ : BufTy).Contents (Elt F) → (⟨S64x64, .f32⟩ : BufTy).Contents (Elt F)),
    StableHlo.nullary main_cst_15 (constant S_ .f32 0x3F800000#32),
    StableHlo.unary main_cst_15 main_v54 (broadcastInDim S64x64 ![] bcast_S_S64x64 : (⟨S_, .f32⟩ : BufTy).Contents (Elt F) → (⟨S64x64, .f32⟩ : BufTy).Contents (Elt F)),
    StableHlo.binary main_v54 main_v53 main_v55 (mulf : (⟨S64x64, .f32⟩ : BufTy).Contents (Elt F) → (⟨S64x64, .f32⟩ : BufTy).Contents (Elt F) → (⟨S64x64, .f32⟩ : BufTy).Contents (Elt F)),
    StableHlo.nary ![main_v52, main_v55, main_v8] main_v56 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.unary main_arg4 main_v57 ((extractStridedSlice S64 ![128] · slices_S256_S64_128) : (⟨S256, .f32⟩ : BufTy).Contents (Elt F) → (⟨S64, .f32⟩ : BufTy).Contents (Elt F)),
    StableHlo.nullary main_cst_16 (constant S_ .f32 0x3F800000#32),
    StableHlo.unary main_cst_16 main_v58 (broadcastInDim S64 ![] bcast_S_S64 : (⟨S_, .f32⟩ : BufTy).Contents (Elt F) → (⟨S64, .f32⟩ : BufTy).Contents (Elt F)),
    StableHlo.binary main_v58 main_v57 main_v59 (mulf : (⟨S64, .f32⟩ : BufTy).Contents (Elt F) → (⟨S64, .f32⟩ : BufTy).Contents (Elt F) → (⟨S64, .f32⟩ : BufTy).Contents (Elt F)),
    StableHlo.unary main_arg7 main_v60 ((extractStridedSlice S64 ![128] · slices_S256_S64_128) : (⟨S256, .f32⟩ : BufTy).Contents (Elt F) → (⟨S64, .f32⟩ : BufTy).Contents (Elt F)),
    StableHlo.nullary main_cst_17 (constant S_ .f32 0x3F800000#32),
    StableHlo.unary main_cst_17 main_v61 (broadcastInDim S64 ![] bcast_S_S64 : (⟨S_, .f32⟩ : BufTy).Contents (Elt F) → (⟨S64, .f32⟩ : BufTy).Contents (Elt F)),
    StableHlo.binary main_v61 main_v60 main_v62 (mulf : (⟨S64, .f32⟩ : BufTy).Contents (Elt F) → (⟨S64, .f32⟩ : BufTy).Contents (Elt F) → (⟨S64, .f32⟩ : BufTy).Contents (Elt F)),
    StableHlo.unary main_arg3 main_v63 ((extractStridedSlice S64x64 ![0, 192] · slices_S64x256_S64x64_0_192) : (⟨S64x256, .f32⟩ : BufTy).Contents (Elt F) → (⟨S64x64, .f32⟩ : BufTy).Contents (Elt F)),
    StableHlo.unary main_v6 main_v64 ((extractStridedSlice S128x64 ![0, 192] · slices_S128x256_S128x64_0_192) : (⟨S128x256, .f32⟩ : BufTy).Contents (Elt F) → (⟨S128x64, .f32⟩ : BufTy).Contents (Elt F)),
    StableHlo.nary ![main_v63, main_v7, main_v64] main_v65 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.nullary main_cst_18 (constant S_ .f32 0x3F000000#32),
    StableHlo.unary main_cst_18 main_v66 (broadcastInDim S256x64 ![] bcast_S_S256x64 : (⟨S_, .f32⟩ : BufTy).Contents (Elt F) → (⟨S256x64, .f32⟩ : BufTy).Contents (Elt F)),
    StableHlo.binary main_v66 main_v65 main_v67 (mulf : (⟨S256x64, .f32⟩ : BufTy).Contents (Elt F) → (⟨S256x64, .f32⟩ : BufTy).Contents (Elt F) → (⟨S256x64, .f32⟩ : BufTy).Contents (Elt F)),
    StableHlo.unary main_arg5 main_v68 ((extractStridedSlice S64x64 ![0, 192] · slices_S64x256_S64x64_0_192) : (⟨S64x256, .f32⟩ : BufTy).Contents (Elt F) → (⟨S64x64, .f32⟩ : BufTy).Contents (Elt F)),
    StableHlo.nullary main_cst_19 (constant S_ .f32 0x3F000000#32),
    StableHlo.unary main_cst_19 main_v69 (broadcastInDim S64x64 ![] bcast_S_S64x64 : (⟨S_, .f32⟩ : BufTy).Contents (Elt F) → (⟨S64x64, .f32⟩ : BufTy).Contents (Elt F)),
    StableHlo.binary main_v69 main_v68 main_v70 (mulf : (⟨S64x64, .f32⟩ : BufTy).Contents (Elt F) → (⟨S64x64, .f32⟩ : BufTy).Contents (Elt F) → (⟨S64x64, .f32⟩ : BufTy).Contents (Elt F)),
    StableHlo.unary main_arg6 main_v71 ((extractStridedSlice S64x64 ![0, 192] · slices_S64x256_S64x64_0_192) : (⟨S64x256, .f32⟩ : BufTy).Contents (Elt F) → (⟨S64x64, .f32⟩ : BufTy).Contents (Elt F)),
    StableHlo.nullary main_cst_20 (constant S_ .f32 0x3F000000#32),
    StableHlo.unary main_cst_20 main_v72 (broadcastInDim S64x64 ![] bcast_S_S64x64 : (⟨S_, .f32⟩ : BufTy).Contents (Elt F) → (⟨S64x64, .f32⟩ : BufTy).Contents (Elt F)),
    StableHlo.binary main_v72 main_v71 main_v73 (mulf : (⟨S64x64, .f32⟩ : BufTy).Contents (Elt F) → (⟨S64x64, .f32⟩ : BufTy).Contents (Elt F) → (⟨S64x64, .f32⟩ : BufTy).Contents (Elt F)),
    StableHlo.nary ![main_v70, main_v73, main_v8] main_v74 (fun u => (concatenate S256x64 0 [⟨S64x64, (u 0 : (⟨S64x64, .f32⟩ : BufTy).Contents (Elt F))⟩, ⟨S64x64, (u 1 : (⟨S64x64, .f32⟩ : BufTy).Contents (Elt F))⟩, ⟨S128x64, (u 2 : (⟨S128x64, .f32⟩ : BufTy).Contents (Elt F))⟩] concatenates_S64x64_S64x64_S128x64_S256x64_d0 : (⟨S256x64, .f32⟩ : BufTy).Contents (Elt F))),
    StableHlo.unary main_arg4 main_v75 ((extractStridedSlice S64 ![192] · slices_S256_S64_192) : (⟨S256, .f32⟩ : BufTy).Contents (Elt F) → (⟨S64, .f32⟩ : BufTy).Contents (Elt F)),
    StableHlo.nullary main_cst_21 (constant S_ .f32 0x3F000000#32),
    StableHlo.unary main_cst_21 main_v76 (broadcastInDim S64 ![] bcast_S_S64 : (⟨S_, .f32⟩ : BufTy).Contents (Elt F) → (⟨S64, .f32⟩ : BufTy).Contents (Elt F)),
    StableHlo.binary main_v76 main_v75 main_v77 (mulf : (⟨S64, .f32⟩ : BufTy).Contents (Elt F) → (⟨S64, .f32⟩ : BufTy).Contents (Elt F) → (⟨S64, .f32⟩ : BufTy).Contents (Elt F)),
    StableHlo.unary main_arg7 main_v78 ((extractStridedSlice S64 ![192] · slices_S256_S64_192) : (⟨S256, .f32⟩ : BufTy).Contents (Elt F) → (⟨S64, .f32⟩ : BufTy).Contents (Elt F)),
    StableHlo.nullary main_cst_22 (constant S_ .f32 0x3F000000#32),
    StableHlo.unary main_cst_22 main_v79 (broadcastInDim S64 ![] bcast_S_S64 : (⟨S_, .f32⟩ : BufTy).Contents (Elt F) → (⟨S64, .f32⟩ : BufTy).Contents (Elt F)),
    StableHlo.binary main_v79 main_v78 main_v80 (mulf : (⟨S64, .f32⟩ : BufTy).Contents (Elt F) → (⟨S64, .f32⟩ : BufTy).Contents (Elt F) → (⟨S64, .f32⟩ : BufTy).Contents (Elt F)),
    StableHlo.nary ![main_v13, main_v20, main_v31, main_v38, main_v49, main_v56, main_v67, main_v74] main_v81 (fun u => (concatenate S256x512 1 [⟨S256x64, (u 0 : (⟨S256x64, .f32⟩ : BufTy).Contents (Elt F))⟩, ⟨S256x64, (u 1 : (⟨S256x64, .f32⟩ : BufTy).Contents (Elt F))⟩, ⟨S256x64, (u 2 : (⟨S256x64, .f32⟩ : BufTy).Contents (Elt F))⟩, ⟨S256x64, (u 3 : (⟨S256x64, .f32⟩ : BufTy).Contents (Elt F))⟩, ⟨S256x64, (u 4 : (⟨S256x64, .f32⟩ : BufTy).Contents (Elt F))⟩, ⟨S256x64, (u 5 : (⟨S256x64, .f32⟩ : BufTy).Contents (Elt F))⟩, ⟨S256x64, (u 6 : (⟨S256x64, .f32⟩ : BufTy).Contents (Elt F))⟩, ⟨S256x64, (u 7 : (⟨S256x64, .f32⟩ : BufTy).Contents (Elt F))⟩] concatenates_S256x64_S256x64_S256x64_S256x64_S256x64_S256x64_S256x64_S256x64_S256x512_d1 : (⟨S256x512, .f32⟩ : BufTy).Contents (Elt F))),
    StableHlo.nary ![main_v23, main_v26, main_v41, main_v44, main_v59, main_v62, main_v77, main_v80] main_v82 (fun u => (concatenate S512 0 [⟨S64, (u 0 : (⟨S64, .f32⟩ : BufTy).Contents (Elt F))⟩, ⟨S64, (u 1 : (⟨S64, .f32⟩ : BufTy).Contents (Elt F))⟩, ⟨S64, (u 2 : (⟨S64, .f32⟩ : BufTy).Contents (Elt F))⟩, ⟨S64, (u 3 : (⟨S64, .f32⟩ : BufTy).Contents (Elt F))⟩, ⟨S64, (u 4 : (⟨S64, .f32⟩ : BufTy).Contents (Elt F))⟩, ⟨S64, (u 5 : (⟨S64, .f32⟩ : BufTy).Contents (Elt F))⟩, ⟨S64, (u 6 : (⟨S64, .f32⟩ : BufTy).Contents (Elt F))⟩, ⟨S64, (u 7 : (⟨S64, .f32⟩ : BufTy).Contents (Elt F))⟩] concatenates_S64_S64_S64_S64_S64_S64_S64_S64_S512_d0 : (⟨S512, .f32⟩ : BufTy).Contents (Elt F))),
    StableHlo.reshape main_v82 main_v83 (rfl : (.f32 : EltTy) = .f32) shapeCasts_S512_S1x512,
    StableHlo.reshape main_arg9 main_v84 (rfl : (.f32 : EltTy) = .f32) shapeCasts_S64_S1x64,
    StableHlo.reshape main_arg11 main_v85 (rfl : (.f32 : EltTy) = .f32) shapeCasts_S1_S1x1 ]

/-! ## The program as those lists -/

/-- The recurrent kernel's call. -/
abbrev callTC : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ())

theorem part0_eq (d : Dev nD) : main_part0 (F := F) d
    = (StableHlo.seq opsIn >>= fun _ => sc.run d 0 >>= fun _ => StableHlo.seq opsPackA) := rfl

set_option maxHeartbeats 4000000 in
theorem part1_eq (d : Dev nD) : main_part1 (F := F) d = (StableHlo.seq opsPackB >>= fun _ => callTC) := rfl

/-- The operations between the two kernels. -/
abbrev opsPack : List (HloOp τ sig (Elt F)) := opsPackA ++ opsPackB

theorem main_eq (d : Dev nD) : main (F := F) d
    = (StableHlo.seq opsIn >>= fun _ => sc.run d 0 >>= fun _ => StableHlo.seq opsPack >>= fun _ => callTC) := by
  show (main_part0 d >>= fun _ => main_part1 d) = _
  rw [part0_eq, part1_eq, StableHlo.seq_append]
  simp only [bind_assoc]

/-! ## What the operations touch -/

theorem opsIn_fresh : ∀ op ∈ (opsIn : List (HloOp τ sig (Elt F))), op.fresh = ∅ :=
  List.forall_iff_forall_mem.mp (StableHlo.forall_fresh_of_map rfl)

set_option maxHeartbeats 1000000 in
theorem opsPackA_fresh : (opsPackA : List (HloOp τ sig (Elt F))).Forall fun op => op.fresh = ∅ := StableHlo.forall_fresh_of_map rfl

set_option maxHeartbeats 1000000 in
theorem opsPackB_fresh : (opsPackB : List (HloOp τ sig (Elt F))).Forall fun op => op.fresh = ∅ := StableHlo.forall_fresh_of_map rfl

theorem opsPack_fresh : ∀ op ∈ (opsPack : List (HloOp τ sig (Elt F))), op.fresh = ∅ := fun op h =>
  (List.mem_append.mp h).elim (List.forall_iff_forall_mem.mp opsPackA_fresh op) (List.forall_iff_forall_mem.mp opsPackB_fresh op)

/-- The buffers the operations before the gather write, in order. -/
abbrev writtenIn : List (Ref sig .tc) := [main_cst, main_v0, main_v1, main_v2, main_v3]

/-- The buffers the first operations after the gather write, in order. -/
abbrev writtenA : List (Ref sig .tc) := [main_cst_0, main_v5, main_v6, main_cst_1, main_v7, main_cst_2, main_v8, main_v9, main_v10, main_v11,
  main_cst_3, main_v12, main_v13, main_v14, main_cst_4, main_v15, main_v16, main_v17, main_cst_5, main_v18,
  main_v19, main_v20, main_v21, main_cst_6, main_v22, main_v23, main_v24, main_cst_7, main_v25, main_v26,
  main_v27, main_v28, main_v29, main_cst_8, main_v30, main_v31, main_v32, main_cst_9, main_v33, main_v34,
  main_v35, main_cst_10, main_v36, main_v37, main_v38, main_v39, main_cst_11, main_v40, main_v41, main_v42,
  main_cst_12, main_v43, main_v44, main_v45]

/-- The buffers the others write, in order. -/
abbrev writtenB : List (Ref sig .tc) := [main_v46, main_v47, main_cst_13, main_v48, main_v49, main_v50, main_cst_14, main_v51, main_v52, main_v53,
  main_cst_15, main_v54, main_v55, main_v56, main_v57, main_cst_16, main_v58, main_v59, main_v60, main_cst_17,
  main_v61, main_v62, main_v63, main_v64, main_v65, main_cst_18, main_v66, main_v67, main_v68, main_cst_19,
  main_v69, main_v70, main_v71, main_cst_20, main_v72, main_v73, main_v74, main_v75, main_cst_21, main_v76,
  main_v77, main_v78, main_cst_22, main_v79, main_v80, main_v81, main_v82, main_v83, main_v84, main_v85]

theorem opsIn_keep (V : Valuation τ sig (Elt F)) {r : Ref sig .tc} (hr : r ∉ writtenIn) :
    StableHlo.after opsIn V (Proc.devRef .tc r) = V (Proc.devRef .tc r) := StableHlo.after_unwritten writtenIn rfl hr V

set_option maxHeartbeats 1000000 in
theorem opsPackA_keep (V : Valuation τ sig (Elt F)) {r : Ref sig .tc} (hr : r ∉ writtenA) :
    StableHlo.after opsPackA V (Proc.devRef .tc r) = V (Proc.devRef .tc r) := StableHlo.after_unwritten writtenA rfl hr V

set_option maxHeartbeats 1000000 in
theorem opsPackB_keep (V : Valuation τ sig (Elt F)) {r : Ref sig .tc} (hr : r ∉ writtenB) :
    StableHlo.after opsPackB V (Proc.devRef .tc r) = V (Proc.devRef .tc r) := StableHlo.after_unwritten writtenB rfl hr V

theorem after_pack (V : Valuation τ sig (Elt F)) :
    StableHlo.after opsPack V = StableHlo.after opsPackB (StableHlo.after opsPackA V) := by
  have h : ∀ (l l' : List (HloOp τ sig (Elt F))) (V : Valuation τ sig (Elt F)),
      StableHlo.after (l ++ l') V = StableHlo.after l' (StableHlo.after l V) := fun l l' => by
    induction l with
    | nil => exact fun _ => rfl
    | cons op l ih => exact fun V => ih _
  exact h _ _ V

theorem opsPack_keep (V : Valuation τ sig (Elt F)) {r : Ref sig .tc} (hA : r ∉ writtenA) (hB : r ∉ writtenB) :
    StableHlo.after opsPack V (Proc.devRef .tc r) = V (Proc.devRef .tc r) := by
  rw [after_pack, opsPackB_keep _ hB, opsPackA_keep _ hA]

theorem opsIn_sub : ∀ op ∈ (opsIn : List (HloOp τ sig (Elt F))), op.bufs ⊆ Pipeline.ucRefs τ sig := by
  refine List.forall_iff_forall_mem.mp ?_
  refine ⟨?_, ?_, ?_, ?_, ?_⟩ <;> apply Pipeline.sub_ucRefs
  exacts [StableHlo.nullary_bufs_sub .., StableHlo.unary_bufs_sub .., StableHlo.binary_bufs_sub .., StableHlo.unary_bufs_sub ..,
    StableHlo.reshape_bufs_sub ..]

set_option maxHeartbeats 1000000 in
theorem opsPackA_sub : (opsPackA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.nullary_bufs_sub .., StableHlo.unary_bufs_sub .., StableHlo.unary_bufs_sub ..,
    StableHlo.unary_bufs_sub .., StableHlo.nary_bufs_sub .., StableHlo.nullary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.nary_bufs_sub .., StableHlo.unary_bufs_sub .., StableHlo.nullary_bufs_sub ..,
    StableHlo.unary_bufs_sub .., StableHlo.binary_bufs_sub .., StableHlo.unary_bufs_sub .., StableHlo.nullary_bufs_sub ..,
    StableHlo.unary_bufs_sub .., StableHlo.binary_bufs_sub .., StableHlo.unary_bufs_sub .., StableHlo.unary_bufs_sub ..,
    StableHlo.nary_bufs_sub .., StableHlo.nullary_bufs_sub .., StableHlo.unary_bufs_sub .., StableHlo.binary_bufs_sub ..,
    StableHlo.unary_bufs_sub .., StableHlo.nullary_bufs_sub .., StableHlo.unary_bufs_sub .., StableHlo.binary_bufs_sub ..,
    StableHlo.unary_bufs_sub .., StableHlo.nullary_bufs_sub .., StableHlo.unary_bufs_sub .., StableHlo.binary_bufs_sub ..,
    StableHlo.nary_bufs_sub .., StableHlo.unary_bufs_sub .., StableHlo.nullary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.unary_bufs_sub ..⟩

set_option maxHeartbeats 1000000 in
theorem opsPackB_sub : (opsPackB : List (HloOp τ sig (Elt F))).Forall fun op => op.bufs ⊆ StableHlo.tcRefs τ sig :=
  ⟨StableHlo.unary_bufs_sub .., StableHlo.nary_bufs_sub .., StableHlo.nullary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.nary_bufs_sub .., StableHlo.unary_bufs_sub .., StableHlo.nullary_bufs_sub ..,
    StableHlo.unary_bufs_sub .., StableHlo.binary_bufs_sub .., StableHlo.unary_bufs_sub .., StableHlo.nullary_bufs_sub ..,
    StableHlo.unary_bufs_sub .., StableHlo.binary_bufs_sub .., StableHlo.unary_bufs_sub .., StableHlo.unary_bufs_sub ..,
    StableHlo.nary_bufs_sub .., StableHlo.nullary_bufs_sub .., StableHlo.unary_bufs_sub .., StableHlo.binary_bufs_sub ..,
    StableHlo.unary_bufs_sub .., StableHlo.nullary_bufs_sub .., StableHlo.unary_bufs_sub .., StableHlo.binary_bufs_sub ..,
    StableHlo.unary_bufs_sub .., StableHlo.nullary_bufs_sub .., StableHlo.unary_bufs_sub .., StableHlo.binary_bufs_sub ..,
    StableHlo.nary_bufs_sub .., StableHlo.unary_bufs_sub .., StableHlo.nullary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.nary_bufs_sub .., StableHlo.nary_bufs_sub .., StableHlo.reshape_bufs_sub ..,
    StableHlo.reshape_bufs_sub .., StableHlo.reshape_bufs_sub ..⟩

theorem opsPack_sub : ∀ op ∈ (opsPack : List (HloOp τ sig (Elt F))), op.bufs ⊆ Pipeline.ucRefs τ sig := fun op h =>
  Pipeline.sub_ucRefs op ((List.mem_append.mp h).elim (List.forall_iff_forall_mem.mp opsPackA_sub op)
    (List.forall_iff_forall_mem.mp opsPackB_sub op))

/-! ## What the operations compute -/

/-- The table the gather reads: the embeddings padded to 128 columns with zeros. -/
def padTable (e : FVec F S10000x100 .f32) : FVec F S10000x128 .f32 :=
  concatenate S10000x128 1 [⟨S10000x100, e⟩, ⟨S10000x28, broadcastInDim S10000x28 ![] bcast_S_S10000x28 (constant S_ .f32 0x00000000#32)⟩]
    concatenates_S10000x100_S10000x28_S10000x128_d1

/-- The list of indices the gather reads: time-major, flattened. -/
def timeMajor (x : IVec S128x80 32) : IVec S10240 32 :=
  shapeCast S10240 (transpose S80x128 [1, 0] x transposes_S128x80_S80x128_1_0) shapeCasts_S80x128_S10240

/-- The first layer's input weights, padded to 128 rows with zeros. -/
def padW (w : FVec F S100x256 .f32) : FVec F S128x256 .f32 :=
  concatenate S128x256 0 [⟨S100x256, w⟩, ⟨S28x256, broadcastInDim S28x256 ![] bcast_S_S28x256 (constant S_ .f32 0x00000000#32)⟩]
    concatenates_S100x256_S28x256_S128x256_d0

/-- One gate's columns of the first layer: recurrent weights, zeros, input weights, one over the other, scaled by `s`. -/
def blockIn (s : BitVec 32) (o : ℕ) (h₁ : S64x256.Slices ![0, o] S64x64) (h₂ : S128x256.Slices ![0, o] S128x64)
    (wk : FVec F S100x256 .f32) (wr : FVec F S64x256 .f32) : FVec F S256x64 .f32 :=
  mulf (broadcastInDim S256x64 ![] bcast_S_S256x64 (constant S_ .f32 s))
    (concatenate S256x64 0 [⟨S64x64, extractStridedSlice S64x64 ![0, o] wr h₁⟩,
      ⟨S64x64, broadcastInDim S64x64 ![] bcast_S_S64x64 (constant S_ .f32 0x00000000#32)⟩,
      ⟨S128x64, extractStridedSlice S128x64 ![0, o] (padW wk) h₂⟩] concatenates_S64x64_S64x64_S128x64_S256x64_d0)

/-- One gate's columns of the second layer: input weights and recurrent weights, each scaled by `s`, over zeros. -/
def blockUp (s : BitVec 32) (o : ℕ) (h₁ : S64x256.Slices ![0, o] S64x64)
    (wk wr : FVec F S64x256 .f32) : FVec F S256x64 .f32 :=
  concatenate S256x64 0 [⟨S64x64, mulf (broadcastInDim S64x64 ![] bcast_S_S64x64 (constant S_ .f32 s)) (extractStridedSlice S64x64 ![0, o] wk h₁)⟩,
    ⟨S64x64, mulf (broadcastInDim S64x64 ![] bcast_S_S64x64 (constant S_ .f32 s)) (extractStridedSlice S64x64 ![0, o] wr h₁)⟩,
    ⟨S128x64, broadcastInDim S128x64 ![] bcast_S_S128x64 (constant S_ .f32 0x00000000#32)⟩] concatenates_S64x64_S64x64_S128x64_S256x64_d0

/-- One gate's bias, scaled by `s`. -/
def biasBlock (s : BitVec 32) (o : ℕ) (h : S256.Slices ![o] S64) (b : FVec F S256 .f32) : FVec F S64 .f32 :=
  mulf (broadcastInDim S64 ![] bcast_S_S64 (constant S_ .f32 s)) (extractStridedSlice S64 ![o] b h)

/-- The packed weights of both layers. -/
def packW (wk0 : FVec F S100x256 .f32) (wr0 wk1 wr1 : FVec F S64x256 .f32) : FVec F S256x512 .f32 :=
  concatenate S256x512 1
    [⟨S256x64, blockIn 0x3F000000#32 0 slices_S64x256_S64x64_0_0 slices_S128x256_S128x64_0_0 wk0 wr0⟩,
     ⟨S256x64, blockUp 0x3F000000#32 0 slices_S64x256_S64x64_0_0 wk1 wr1⟩,
     ⟨S256x64, blockIn 0x3F000000#32 64 slices_S64x256_S64x64_0_64 slices_S128x256_S128x64_0_64 wk0 wr0⟩,
     ⟨S256x64, blockUp 0x3F000000#32 64 slices_S64x256_S64x64_0_64 wk1 wr1⟩,
     ⟨S256x64, blockIn 0x3F800000#32 128 slices_S64x256_S64x64_0_128 slices_S128x256_S128x64_0_128 wk0 wr0⟩,
     ⟨S256x64, blockUp 0x3F800000#32 128 slices_S64x256_S64x64_0_128 wk1 wr1⟩,
     ⟨S256x64, blockIn 0x3F000000#32 192 slices_S64x256_S64x64_0_192 slices_S128x256_S128x64_0_192 wk0 wr0⟩,
     ⟨S256x64, blockUp 0x3F000000#32 192 slices_S64x256_S64x64_0_192 wk1 wr1⟩]
    concatenates_S256x64_S256x64_S256x64_S256x64_S256x64_S256x64_S256x64_S256x64_S256x512_d1

/-- The packed biases of both layers, as a row. -/
def packB (b0 b1 : FVec F S256 .f32) : FVec F S1x512 .f32 :=
  shapeCast S1x512 (concatenate S512 0
    [⟨S64, biasBlock 0x3F000000#32 0 slices_S256_S64_0 b0⟩, ⟨S64, biasBlock 0x3F000000#32 0 slices_S256_S64_0 b1⟩,
     ⟨S64, biasBlock 0x3F000000#32 64 slices_S256_S64_64 b0⟩, ⟨S64, biasBlock 0x3F000000#32 64 slices_S256_S64_64 b1⟩,
     ⟨S64, biasBlock 0x3F800000#32 128 slices_S256_S64_128 b0⟩, ⟨S64, biasBlock 0x3F800000#32 128 slices_S256_S64_128 b1⟩,
     ⟨S64, biasBlock 0x3F000000#32 192 slices_S256_S64_192 b0⟩, ⟨S64, biasBlock 0x3F000000#32 192 slices_S256_S64_192 b1⟩]
    concatenates_S64_S64_S64_S64_S64_S64_S64_S64_S512_d0) shapeCasts_S512_S1x512

theorem in_table (V : Valuation τ sig (Elt F)) :
    StableHlo.after opsIn V (Proc.devRef .tc main_v1) = padTable (V (Proc.devRef .tc main_arg1)) := by
  after_reads_simp; rfl

theorem in_index (V : Valuation τ sig (Elt F)) :
    StableHlo.after opsIn V (Proc.devRef .tc main_v3) = timeMajor (V (Proc.devRef .tc main_arg0)) := by
  after_reads_simp; rfl

/-- Three operands joined: the result over each operand's contents at its own buffer. -/
theorem nary3_result {a b c y : Ref sig .tc}
    (f : ((k : Fin 3) → ((![a, b, c] : Fin 3 → Ref sig .tc) k).ty.Contents (Elt F)) → y.ty.Contents (Elt F)) (hxs hy)
    (V : Valuation τ sig (Elt F)) :
    (StableHlo.nary (τ := τ) ![a, b, c] y f hxs hy).result V (no_index (Proc.devRef .tc y))
      = f (Fin.cons (V (Proc.devRef .tc a)) (Fin.cons (V (Proc.devRef .tc b)) (Fin.cons (V (Proc.devRef .tc c)) (fun i => i.elim0)))) := by
  rw [StableHlo.nary_result]; congr 1; funext k; fin_cases k <;> rfl

/-- Eight operands joined. -/
theorem nary8_result {a b c d a' b' c' d' y : Ref sig .tc}
    (f : ((k : Fin 8) → ((![a, b, c, d, a', b', c', d'] : Fin 8 → Ref sig .tc) k).ty.Contents (Elt F)) → y.ty.Contents (Elt F)) (hxs hy)
    (V : Valuation τ sig (Elt F)) :
    (StableHlo.nary (τ := τ) ![a, b, c, d, a', b', c', d'] y f hxs hy).result V (no_index (Proc.devRef .tc y))
      = f (Fin.cons (V (Proc.devRef .tc a)) (Fin.cons (V (Proc.devRef .tc b)) (Fin.cons (V (Proc.devRef .tc c)) (Fin.cons (V (Proc.devRef .tc d))
          (Fin.cons (V (Proc.devRef .tc a')) (Fin.cons (V (Proc.devRef .tc b')) (Fin.cons (V (Proc.devRef .tc c')) (Fin.cons (V (Proc.devRef .tc d'))
            (fun i => i.elim0)))))))) ) := by
  rw [StableHlo.nary_result]; congr 1; funext k; fin_cases k <;> rfl

set_option maxHeartbeats 4000000 in
theorem pack_weights (V : Valuation τ sig (Elt F)) :
    StableHlo.after opsPack V (Proc.devRef .tc main_v81)
      = packW (V (Proc.devRef .tc main_arg2)) (V (Proc.devRef .tc main_arg3)) (V (Proc.devRef .tc main_arg5)) (V (Proc.devRef .tc main_arg6)) := by
  after_reads_simp [nary3_result, nary8_result]
  rfl

set_option maxHeartbeats 4000000 in
theorem pack_bias (V : Valuation τ sig (Elt F)) :
    StableHlo.after opsPack V (Proc.devRef .tc main_v83) = packB (V (Proc.devRef .tc main_arg4)) (V (Proc.devRef .tc main_arg7)) := by
  after_reads_simp [nary3_result, nary8_result]
  rfl

theorem pack_bd1 (V : Valuation τ sig (Elt F)) :
    StableHlo.after opsPack V (Proc.devRef .tc main_v84) = shapeCast S1x64 (V (Proc.devRef .tc main_arg9)) shapeCasts_S64_S1x64 := by
  after_reads_simp; rfl

theorem pack_bd2 (V : Valuation τ sig (Elt F)) :
    StableHlo.after opsPack V (Proc.devRef .tc main_v85) = shapeCast S1x1 (V (Proc.devRef .tc main_arg11)) shapeCasts_S1_S1x1 := by
  after_reads_simp; rfl

end Cert.Proof

end
-- ==== Proof.Launch.lean ====
/-
  The whole program's run, over any float values: the host's packing, the gather on the SparseCores' tiles, the recurrent
  kernel on the TensorCore. The arguments are left as they were and the result is the kernels' composed value.
-/
module

public import proofs.«01_k».proof.Proof.Gather
public import proofs.«01_k».proof.Proof.HostOps

@[expose] public section

set_option maxRecDepth 8192

noncomputable section

namespace Cert.Proof

open Cert.KernelIdeal Cert.KernelIdeal.Gen

open Idealize.ShloMosaic Idealize.ShloMosaic.ValueIdx Idealize.ShloMosaic.TcCoe
open Idealize.ShloMosaic.SparseCore.Cfg (HIx)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The buffers' contents along the program -/

/-- At launch. -/
def W0 (d : Dev nD) : Valuation τ sig (Elt F) := fun b => m (d, b)

/-- Before the gather. -/
def W1 (d : Dev nD) : Valuation τ sig (Elt F) := after opsIn (W0 m d)

/-- The gather's table, its list of rows and its result's first contents. -/
def tab (d : Dev nD) : Buf (Elt F) (tLoc d) := W1 m d (Proc.devRef .tc main_v1)
def idx (d : Dev nD) : Buf (Elt F) (iLoc d) := W1 m d (Proc.devRef .tc main_v3)
def out₀ (d : Dev nD) : Buf (Elt F) (oLoc d) := W1 m d (Proc.devRef .tc main_v4)

/-- After the gather. -/
def W2 (d : Dev nD) : Valuation τ sig (Elt F) :=
  Function.update (W1 m d) (Proc.devRef .tc main_v4) (gath (tab m d) (idx m d))

/-- Before the recurrent kernel. -/
def W3 (d : Dev nD) : Valuation τ sig (Elt F) := after opsPack (W2 m d)

/-- At the end. -/
def W4 (d : Dev nD) : Valuation τ sig (Elt F) := Pipeline.afterRegion (pdats (W3 m) 0 d) (W3 m d)

/-! ## The gather's buffers among the others -/

/-- The three buffers the gather uses. -/
def gBufs : Finset (DevRef τ sig) := {Proc.devRef .tc main_v3, Proc.devRef .tc main_v1, Proc.devRef .tc main_v4}

theorem gBufs_sub : gBufs ⊆ Pipeline.ucRefs τ sig := by
  intro b hb
  simp only [gBufs, Finset.mem_insert, Finset.mem_singleton] at hb
  rcases hb with rfl | rfl | rfl <;> exact Pipeline.devRef_mem_ucRefs (by decide)

theorem held_gBufs (d : Dev nD) (V : Valuation τ sig (Elt F)) : (held (SparseCore.T d) gBufs V : sProp 𝕄)
    = iprop((iLoc d ↦{fullShare} V (Proc.devRef .tc main_v3)) ∗ (tLoc d ↦{fullShare} V (Proc.devRef .tc main_v1))
        ∗ oLoc d ↦{fullShare} V (Proc.devRef .tc main_v4)) := by
  unfold held gBufs
  rw [SparseCore.bigSep_insert' (by decide), SparseCore.bigSep_insert' (by decide), bigSep_singleton]

/-- Before the gather: the list, the table and the result taken out of the rest. -/
theorem held_before (d : Dev nD) : (held (SparseCore.T d) (Pipeline.ucRefs τ sig) (W1 m d) : sProp 𝕄)
    = iprop(((iLoc d ↦{fullShare} idx m d) ∗ (tLoc d ↦{fullShare} tab m d) ∗ oLoc d ↦{fullShare} out₀ m d)
        ∗ held (SparseCore.T d) (Pipeline.ucRefs τ sig \ gBufs) (W1 m d)) := by
  rw [StableHlo.held_sub_split _ gBufs_sub, held_gBufs]; rfl

/-- After it: the same with the result at the gathered rows. -/
theorem held_after (d : Dev nD) : (held (SparseCore.T d) (Pipeline.ucRefs τ sig) (W2 m d) : sProp 𝕄)
    = iprop(((iLoc d ↦{fullShare} idx m d) ∗ (tLoc d ↦{fullShare} tab m d) ∗ oLoc d ↦{fullShare} gath (tab m d) (idx m d))
        ∗ held (SparseCore.T d) (Pipeline.ucRefs τ sig \ gBufs) (W1 m d)) := by
  have h3 : W2 m d (Proc.devRef .tc main_v3) = idx m d := Function.update_of_ne (by decide) _ _
  have h1 : W2 m d (Proc.devRef .tc main_v1) = tab m d := Function.update_of_ne (by decide) _ _
  have h4 : W2 m d (Proc.devRef .tc main_v4) = gath (tab m d) (idx m d) := Function.update_self _ _ _
  have hr : (held (SparseCore.T d) (Pipeline.ucRefs τ sig \ gBufs) (W2 m d) : sProp 𝕄)
      = held (SparseCore.T d) (Pipeline.ucRefs τ sig \ gBufs) (W1 m d) :=
    StableHlo.held_congr _ fun b hb => Function.update_of_ne (fun h => (Finset.mem_sdiff.mp hb).2 (by rw [h]; decide)) _ _
  rw [StableHlo.held_sub_split _ gBufs_sub, held_gBufs, h3, h1, h4, hr]

/-! ## The launch element of the ghost state -/

abbrev pinned := Pipeline.pin (pcfgs (F := F)) adm

theorem cells_inj : Function.Injective (Pipeline.cellOf (nD := nD) (τ := τ) (pinned (F := F))) := launch1.toP.cellOf_inj adm

/-- The handshakes' cells, the staging cells, the transfers' counters. -/
def u₀ : UU :=
  (initOf (K (F := F)).hsCells (K (F := F)).hsToks,
    (initOf (Pipeline.cells (pinned (F := F)) cells_inj) (Pipeline.launchToks (pinned (F := F)) cells_inj), 1))

/-- What the TensorCore of device `d` holds of the staging cells. -/
abbrev G (d : Dev nD) : sProp 𝕄 :=
  iprop(Pipeline.cellsGhost (pinned (F := F)) EP 0 d ∗ Pipeline.toksInit (pinned (F := F)) EP 0 d)

/-- The one device's part of the staging cells is all of it. -/
theorem ghost_dev : iprop((bigSep Finset.univ fun c : Dev nD => bigSep Finset.univ fun p => (Pipeline.cellsGhost (pinned (F := F)) EP p c : sProp 𝕄))
    ∗ bigSep Finset.univ fun c : Dev nD => bigSep Finset.univ fun p => (Pipeline.toksInit (pinned (F := F)) EP p c : sProp 𝕄))
      ⊢ bigSep Finset.univ fun d : Dev nD => (G d : sProp 𝕄) := by
  have h : ∀ f : Dev nD → Fin 1 → sProp 𝕄, (bigSep Finset.univ fun c : Dev nD => bigSep Finset.univ fun p => f c p) = f 0 0 := fun f =>
    (bigSep_univ_of_subsingleton (0 : Fin 1)).trans (bigSep_univ_of_subsingleton (0 : Fin 1))
  rw [h, h, show (bigSep Finset.univ fun d : Dev nD => (G d : sProp 𝕄)) = G 0 from bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tab m) (idx m) (out₀ m)).x q thr) := by
  unfold u₀
  iintro Hu
  ihave H := (ownU_pair (initOf (K (F := F)).hsCells (K (F := F)).hsToks)
    (initOf (Pipeline.cells (pinned (F := F)) cells_inj) (Pipeline.launchToks (pinned (F := F)) cells_inj), (1 : Counters))) $$ Hu
  icases H with ⟨HH, HP⟩
  ihave HP' := (own_pair_emb embR (initOf (Pipeline.cells (pinned (F := F)) cells_inj) (Pipeline.launchToks (pinned (F := F)) cells_inj)) (1 : Counters)) $$ HP
  icases HP' with ⟨HP, -⟩
  imod (Pipeline.fund_ghost (pinned (F := F)) EP cells_inj) $$ [HP] with ⟨Hc, Ht⟩
  · iexact HP
  imodintro
  isplitl [HH]; · iexact HH
  isplitl [Hc Ht]
  · iapply ghost_dev
    isplitl [Hc]; · iexact Hc
    iexact Ht
  rw [show (bigSep Finset.univ fun thr : Thread nD τ => bigSep Finset.univ fun q : Fin 1 => (P (tab m) (idx m) (out₀ m)).x q thr)
      = bigSep Finset.univ fun _ => iprop(emp) from
    bigSep_congr fun _ _ => bigSep_univ_of_subsingleton (0 : Fin 1)]
  rw [show (bigSep Finset.univ fun _ : Thread nD τ => (iprop(emp) : sProp 𝕄)) = iprop(emp) from bigSep_emp_const _]
  iempintro

/-! ## The recurrent kernel's call -/

/-- Any pairs a TensorCore records are within the bound after the one call. -/
theorem wbelow_one (d : Dev nD) (W) : (K (F := F)).WBelow (SparseCore.T d) W (8 * 1) := by
  rintro ⟨g, _ | q⟩ _
  · exact Nat.zero_le _
  · have := (K (F := F)).lev_some_le (SparseCore.T d, g) q
    have := q.isLt
    show (K (F := F)).lev (SparseCore.T d, g) (some q) ≤ 8 * 1
    omega

theorem arrs_sub : Pipeline.arrRefs (pcfgs (F := F) 0).spec ⊆ Pipeline.ucRefs τ sig :=
  Pipeline.arrRefs_sub_ucRefs _ fun w => by fin_cases w <;> rfl

/-- The recurrent kernel's region is entered from the buffers and left at the buffers. -/
theorem region_pre (V : Dev nD → Valuation τ sig (Elt F)) (d : Dev nD) :
    iprop(held (SparseCore.T d) (Pipeline.ucRefs τ sig) (V d) ∗ (∃ W, owes (SparseCore.T d) 0 W))
      ⊢ (region V fun _ => (iprop(emp) : sProp 𝕄)).pre d := by
  refine BIBase.Entails.trans ?_ (Pipeline.RegionSeg.ofHeldIn_pre (pcs := pcfgs (F := F)) (a := adm) (pdats := pdats V) (p := 0) (D := fun _ => 0) arrs_sub d)
  iintro ⟨Hh, HO⟩
  isplitl [Hh]; · iexact Hh
  isplitl [HO]; · iexact HO
  isplitr <;> iempintro

theorem region_post (V : Dev nD → Valuation τ sig (Elt F)) (d : Dev nD) :
    (region V fun _ => (iprop(emp) : sProp 𝕄)).post d
      ⊢ iprop(held (SparseCore.T d) (Pipeline.ucRefs τ sig) (Pipeline.afterRegion (pdats V 0 d) (V d)) ∗ (∃ W, owes (SparseCore.T d) 0 W)) := by
  refine BIBase.Entails.trans (Pipeline.RegionSeg.ofHeldIn_post (pcs := pcfgs (F := F)) (a := adm) (pdats := pdats V) (p := 0) (D := fun _ => 0) arrs_sub d) ?_
  iintro ⟨Hh, HO, -⟩
  isplitl [Hh]; · iexact Hh
  iexact HO

/-- The recurrent kernel run from the buffers before it to the buffers at the end. -/
theorem call_run [∀ e, Nonempty (Elt F e)] (κ : GSem nD τ sig → ℕ) (d : Dev nD) (Q : PUnit → sProp 𝕄) :
    iprop((K (F := F)).ctx EH (P (tab m) (idx m) (out₀ m)) κ ∗ boundary (SparseCore.T d)
        ∗ held (SparseCore.T d) (Pipeline.ucRefs τ sig) (W3 m d) ∗ (∃ W, owes (SparseCore.T d) 0 W) ∗ G d
        ∗ ((boundary (SparseCore.T d) ∗ held (SparseCore.T d) (Pipeline.ucRefs τ sig) (W4 m d) ∗ (∃ W, owes (SparseCore.T d) 0 W)) -∗ Q ⟨⟩))
      ⊢ wp frame (wpE ((K (F := F)).defs (D (F := F))) 𝒱 (SparseCore.T d) none) Set.univ (callTC (F := F)) Q := by
  iintro ⟨#Hctx, Hb, Hh, HO, HG, Hk⟩
  ihave Hlev := (SparseCore.Cfg.ctx_levAts (K := K (F := F)) (EH := EH) (P := P (tab m) (idx m) (out₀ m)) κ) $$ Hctx
  icases HG with ⟨Hc, Ht⟩
  iapply ((K (F := F)).wp_liftProg (D (F := F)) 𝒱 (SparseCore.T d) Set.univ none
    (.op (.customCall (Pipeline.entry 0) ()) fun _ => .ret (⟨⟩ : PUnit)) Q)
  iapply (Pipeline.RegionSeg.wp (pcfgs (F := F)) adm (pdats (W3 m)) none cells_inj EP defs₀ 𝒱₀ (K (F := F)).L (K (F := F)).lev
    (region (W3 m) fun _ => iprop(emp)) d none (fun u h => nomatch h) (fun _ => .ret (⟨⟩ : PUnit)) Q)
  isplitl [Hk]
  · iintro ⟨Hb, Hp⟩
    ihave Hp' := (region_post (W3 m) d) $$ Hp
    icases Hp' with ⟨Hh, HO⟩
    rw [wp_ret]
    imodintro
    iapply Hk
    isplitl [Hb]; · iexact Hb
    isplitl [Hh]; · iexact Hh
    iexact HO
  isplitl [Hb]; · iexact Hb
  isplitl [Hh HO]
  · iapply (region_pre (W3 m) d)
    isplitl [Hh]; · iexact Hh
    iexact HO
  isplitr; · iexact Hlev
  isplitl [Hc]; · iexact Hc
  iexact Ht

/-! ## The TensorCore's program -/

/-- What the TensorCore holds at the end: every buffer, at its last contents. -/
abbrev FIN (d : Dev nD) : sProp 𝕄 := held (SparseCore.T d) (Pipeline.ucRefs τ sig) (W4 m d)

theorem hmain [∀ e, Nonempty (Elt F e)] (ρ : Dev nD → PrngReg) (κ : GSem nD τ sig → ℕ) (d : Dev nD) :
    iprop((K (F := F)).ctx EH (P (tab m) (idx m) (out₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d fun b => m ((SparseCore.T d).loc b) : sProp 𝕄)
    = held (SparseCore.T d) (Pipeline.ucRefs τ sig) (W0 m d) from Pipeline.unscopedBufs_held d (W0 m d)]
  iintro ⟨#Hctx, Hst, ⟨Hb, Hh, Hts, -⟩, HG⟩
  iapply (StableHlo.wp_seq 𝒱 none Set.univ d (Pipeline.ucRefs τ sig) _ opsIn opsIn_sub opsIn_fresh (W0 m d)) $$ [Hb Hh]
  · isplitl [Hb]; · iexact Hb
    iexact Hh
  iintro ⟨Hb, Hh⟩
  ihave Hh' := (show (held (d.tc : Thread nD τ) (Pipeline.ucRefs τ sig) (after opsIn (W0 m d)) : sProp 𝕄) ⊢ _ from Entails.of_eq (held_before m d)) $$ Hh
  icases Hh' with ⟨Hg, Hr⟩
  rw [wp_bind]
  iapply ((K (F := F)).wp_run (D (F := F)) 𝒱 (EH := EH) (P := P (tab m) (idx m) (out₀ m)) κ d 0) $$ [Hst Hg Hr Hb Hts HG]
  isplitr; · iexact Hctx
  isplitl [Hst]; · iexact Hst
  isplitl [Hg]
  · rw [st_eq]
    iexact Hg
  iintro ⟨Hst, Hdn⟩
  ihave Hg := (Entails.of_eq (dn_eq (tab m) (idx m) (out₀ m) d)) $$ Hdn
  ihave Hh := (Entails.of_eq (held_after m d).symm) $$ [Hg Hr]
  · isplitl [Hg]; · iexact Hg
    iexact Hr
  iapply (StableHlo.wp_seq 𝒱 none Set.univ d (Pipeline.ucRefs τ sig) _ opsPack opsPack_sub opsPack_fresh (W2 m d)) $$ [Hb Hh]
  · isplitl [Hb]; · iexact Hb
    iexact Hh
  iintro ⟨Hb, Hh⟩
  unfold SparseCore.Cfg.tcSt
  icases Hst with ⟨⟨%W, %hW, HO⟩, Hst⟩
  rw [show (K (F := F)).Otc d ((0 : Fin 1).val + 1) = 0 from (K (F := F)).Otc_end d (le_refl 1),
    show (K (F := F)).Otc d 1 = 0 from (K (F := F)).Otc_end d (le_refl 1)]
  iapply (call_run m κ d)
  isplitr; · iexact Hctx
  isplitl [Hb]; · iexact Hb
  isplitl [Hh]; · iexact Hh
  isplitl [HO]; · iexists W; iexact HO
  isplitl [HG]; · iexact HG
  iintro ⟨Hb, Hh, ⟨%W', HO⟩⟩
  isplitl [HO Hst]
  · isplitl [HO]
    · iexists W'
      isplitr; · ipureintro; exact wbelow_one d W'
      iexact HO
    iexact Hst
  isplitl [Hh]; · iexact Hh
  isplitl [Hb]; · iexact Hb
  iexact Hts

/-- What the memory holds at the end. -/
def fq (d : Dev nD) (s' : Phys nD τ sig (Elt F)) : Prop := ∀ b ∈ Pipeline.ucRefs τ sig, s'.mem.mem (d, b) = W4 m d b

theorem hfin (d : Dev nD) (s' : Phys nD τ sig (Elt F)) : iprop(FIN m d ∗ SI s') ⊢ (⌜fq m d s'⌝ : sProp 𝕄) :=
  (pointsTo_read_all (Pipeline.ucRefs τ sig) (fun b => (d, b)) (W4 m d) s').trans sep_elim_left

/-- The program's run: every buffer ends at its last contents, every semaphore at 0. -/
def QC : PUnit × MemSt nD τ sig (Elt F) → Prop :=
  fun r => (∀ d : Dev nD, ∀ b ∈ Pipeline.ucRefs τ sig, r.2.mem (d, b) = W4 m d b) ∧ r.2.sem = fun _ => 0

theorem run_main [∀ e, Nonempty (Elt F e)] (ρ : Dev nD → PrngReg) (hix : ListOK (idx m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (idx m) (out₀ m)) (A := ∅)
    scFacts v₀
    (fun q hq => match q with | 0 => nomatch hq)
    (fun q _ => match q with | 0 => tileObl (tab m) (idx m) (out₀ m) scFacts hix)
    (fun q _ => match q with | 0 => SparseCore.Cfg.VecSplit.of_plain (vecSplit (tab m) (idx m) (out₀ m)))
    m ρ main (fun d => G d) (FIN m) (u₀ (F := F)) (sep_elim_left.trans (hu₀ m)) (hmain m ρ) (fq m) (hfin m) (QC m) (fun _ h hz => ⟨h, hz⟩)

end Cert.Proof

end
-- ==== Proof.Outcome.lean ====
/-
  The program's run read at its arguments and its result: the arguments as they were, the result the recurrent kernel's value
  at the gathered rows and the packed weights. The printed program's frame is the same run over bits.
-/
module

public import proofs.«01_k».proof.Proof.Launch
public import proofs.«01_k».proof.Defs
public import proofs.«01_k».proof.Proof.Gen.Kernel
public import proofs.«01_k».proof.Proof.Gen.Pre_in_vocab
public import proofs.«01_k».proof.Proof.Gen.ReferenceIdeal.Run

@[expose] public section

set_option maxRecDepth 8192

noncomputable section

namespace Cert.Proof

open Cert.KernelIdeal Cert.KernelIdeal.Gen

open Idealize.ShloMosaic Idealize.ShloMosaic.ValueIdx Idealize.ShloMosaic.TcCoe
open Idealize.SL Idealize.SL.Sem

variable {F : FTy → Type} [FloatOps F]
variable (m : (ℓ : Loc nD τ sig) → Buf (Elt F) ℓ)

/-- An argument's contents on device `d`. -/
abbrev arg (d : Dev nD) (r : Ref sig .tc) : r.ty.Contents (Elt F) := m (d, Proc.devRef .tc r)

/-- A buffer nothing writes keeps its contents. -/
theorem W3_keep (d : Dev nD) {r : Ref sig .tc} (h₁ : r ∉ writtenIn) (h₂ : r ≠ main_v4) (hA : r ∉ writtenA) (hB : r ∉ writtenB) :
    W3 m d (Proc.devRef .tc r) = arg m d r :=
  (opsPack_keep (W2 m d) hA hB).trans ((Function.update_of_ne (fun h => h₂ (Proc.devRef_injective _ h)) _ _).trans (opsIn_keep (W0 m d) h₁))

theorem W2_keep (d : Dev nD) {r : Ref sig .tc} (h₁ : r ∉ writtenIn) (h₂ : r ≠ main_v4) : W2 m d (Proc.devRef .tc r) = arg m d r :=
  (Function.update_of_ne (fun h => h₂ (Proc.devRef_injective _ h)) _ _).trans (opsIn_keep (W0 m d) h₁)

theorem W4_keep (d : Dev nD) {r : Ref sig .tc} (hw : ∀ w : Fin 8, Pipeline.arrRef cfg1.spec w = r → (cfg1.win w).isOut = false)
    (h₁ : r ∉ writtenIn) (h₂ : r ≠ main_v4) (hA : r ∉ writtenA) (hB : r ∉ writtenB) :
    W4 m d (Proc.devRef .tc r) = arg m d r :=
  (Pipeline.afterRegion_keeps (pdats (W3 m) 0 d) (W3 m d) (launch1.toP (Val := Elt F)).win.arr_inj (fun w => rfl) r hw).trans (W3_keep m d h₁ h₂ hA hB)

/-- The result on device `d`, from its arguments. -/
def result (d : Dev nD) : FVec F S128x1 .f32 :=
  bodyV (gath (padTable (arg m d main_arg1)) (timeMajor (arg m d main_arg0)))
    (packW (arg m d main_arg2) (arg m d main_arg3) (arg m d main_arg5) (arg m d main_arg6))
    (packB (arg m d main_arg4) (arg m d main_arg7)) (arg m d main_arg8) (shapeCast S1x64 (arg m d main_arg9) shapeCasts_S64_S1x64)
    (arg m d main_arg10) (shapeCast S1x1 (arg m d main_arg11) shapeCasts_S1_S1x1)

theorem W3_rows (d : Dev nD) : W3 m d (Proc.devRef .tc main_v4) = gath (padTable (arg m d main_arg1)) (timeMajor (arg m d main_arg0)) := by
  refine (opsPack_keep (W2 m d) (by decide) (by decide)).trans ((Function.update_self _ _ _).trans ?_)
  exact congrArg₂ gath (in_table (W0 m d)) (in_index (W0 m d))

theorem W4_result (d : Dev nD) : W4 m d (Proc.devRef .tc main_v86) = result m d := by
  refine (Pipeline.afterRegion_arr (pdats (W3 m) 0 d) (W3 m d) (launch1.toP (Val := Elt F)).win.arr_inj 7).trans ((arrAt_out (W3 m) d).trans ?_)
  unfold outV result at_
  rw [W3_rows, show W3 m d (Proc.devRef .tc main_v81) = _ from pack_weights (W2 m d), show W3 m d (Proc.devRef .tc main_v83) = _ from pack_bias (W2 m d),
    show W3 m d (Proc.devRef .tc main_v84) = _ from pack_bd1 (W2 m d), show W3 m d (Proc.devRef .tc main_v85) = _ from pack_bd2 (W2 m d),
    W3_keep m d (r := main_arg8) (by decide) (by decide) (by decide) (by decide),
    W3_keep m d (r := main_arg10) (by decide) (by decide) (by decide) (by decide)]
  iterate 8 rw [W2_keep m d (by decide) (by decide)]

/-- The arguments end as they were. -/
def Kept (m : (ℓ : Loc nD τ sig) → Buf (Elt F) ℓ) (m' : (ℓ : Loc nD τ sig) → Buf (Elt F) ℓ) (d : Dev nD) : Prop :=
  m' (d, Proc.devRef .tc main_arg0) = m (d, Proc.devRef .tc main_arg0) ∧ m' (d, Proc.devRef .tc main_arg1) = m (d, Proc.devRef .tc main_arg1)
  ∧ m' (d, Proc.devRef .tc main_arg2) = m (d, Proc.devRef .tc main_arg2) ∧ m' (d, Proc.devRef .tc main_arg3) = m (d, Proc.devRef .tc main_arg3)
  ∧ m' (d, Proc.devRef .tc main_arg4) = m (d, Proc.devRef .tc main_arg4) ∧ m' (d, Proc.devRef .tc main_arg5) = m (d, Proc.devRef .tc main_arg5)
  ∧ m' (d, Proc.devRef .tc main_arg6) = m (d, Proc.devRef .tc main_arg6) ∧ m' (d, Proc.devRef .tc main_arg7) = m (d, Proc.devRef .tc main_arg7)
  ∧ m' (d, Proc.devRef .tc main_arg8) = m (d, Proc.devRef .tc main_arg8) ∧ m' (d, Proc.devRef .tc main_arg9) = m (d, Proc.devRef .tc main_arg9)
  ∧ m' (d, Proc.devRef .tc main_arg10) = m (d, Proc.devRef .tc main_arg10) ∧ m' (d, Proc.devRef .tc main_arg11) = m (d, Proc.devRef .tc main_arg11)

/-- The run: the result's value, the arguments kept, every semaphore at 0. -/
theorem run [∀ e, Nonempty (Elt F e)] (ρ : Dev nD → PrngReg) (hix : ListOK (idx m)) :
    θ_run (Cert.KernelIdeal.defs (F := F)) (Cert.KernelIdeal.threads (F := F)) ⟨m, fun _ => 0, ρ⟩
      fun r => (∀ d : Dev nD, r.2.mem (d, Proc.devRef .tc main_v86) = result m d ∧ Kept m r.2.mem d) ∧ r.2.sem = fun _ => 0 := by
  refine (θ_run Cert.KernelIdeal.defs _ _).mono (fun r h => ⟨fun d => ?_, h.2⟩) (run_main m ρ hix)
  have k : ∀ {x : Ref sig .tc}, x.isScoped = false → (∀ w : Fin 8, Pipeline.arrRef cfg1.spec w = x → (cfg1.win w).isOut = false) →
      x ∉ writtenIn → x ≠ main_v4 → x ∉ writtenA → x ∉ writtenB → r.2.mem (d, Proc.devRef .tc x) = m (d, Proc.devRef .tc x) :=
    fun hs hw h₁ h₂ hA hB => (h.1 d _ (Pipeline.devRef_mem_ucRefs hs)).trans (W4_keep m d hw h₁ h₂ hA hB)
  refine ⟨(h.1 d _ (Pipeline.devRef_mem_ucRefs (by decide))).trans (W4_result m d), ?_⟩
  refine ⟨?_, ?_, ?_, ?_, ?_, ?_, ?_, ?_, ?_, ?_, ?_, ?_⟩ <;> exact k (by decide) (by decide) (by decide) (by decide) (by decide) (by decide)

/-! ## The precondition -/

/-- Every index is a row of the table. -/
def InVocab (x : IVec S128x80 32) : Prop := ∀ j, (x j).toNat < 10000

/-- A word at least 0 and below 10000, both signed, is its own value. -/
theorem word_ok (v : BitVec 32) (e : IntOp.andi (IntOp.cmpi .sge v 0#32) (IntOp.cmpi .slt v 10000#32) = 1#1) : v.toNat < 10000 := by
  have h₁ (p q : Bool) : IntOp.andi (BitVec.ofBool p) (BitVec.ofBool q) = BitVec.ofBool (p && q) := by cases p <;> cases q <;> decide
  have h₂ (p : Bool) : (BitVec.ofBool p = 1#1) ↔ p = true := by cases p <;> decide
  simp only [IntOp.cmpi, h₁, h₂, Bool.and_eq_true, BitVec.sle_eq_decide, BitVec.slt_eq_decide,
    decide_eq_true_eq, BitVec.toInt_eq_toNat_cond, BitVec.toNat_ofNat, Nat.reducePow, Nat.reduceMod] at e
  omega

theorem inVocab_of_fn (x : IVec S128x80 32) {a1 a2 a3 a4 a5 a6 a7 a8 a9 a10 a11}
    (h : Cert.Pre_in_vocab.fn (F := F) x a1 a2 a3 a4 a5 a6 a7 a8 a9 a10 a11 = fun _ => 1#1) : InVocab x := fun j => by
  have e := congrFun h j
  simp only [Cert.Pre_in_vocab.fn, andi, cmpi, broadcastInDim, constantI] at e
  exact word_ok _ e

/-- The list the gather reads holds the same words. -/
theorem list_ok (h : ∀ d, InVocab (arg m d main_arg0)) : ListOK (idx m) := fun d j => by
  have e : idx m d = timeMajor (arg m d main_arg0) := in_index (W0 m d)
  rw [e]
  exact h d _

/-! ## The frames -/

theorem frame_ideal : Cert.quiescent_KernelIdeal := fun m g h =>
  (θ_run Cert.KernelIdeal.defs _ _).mono (fun _ h => ⟨fun c => (h.1 c).2, h.2⟩) (run m g (list_ok m fun d => inVocab_of_fn _ (h d)))

/-! The printed program has the same text: its kernels, its threads and its body table are the same. -/

set_option maxRecDepth 20000 in
set_option maxHeartbeats 4000000 in
theorem kernels_same : (Cert.Kernel.defs₀ (F := Bits)) = Cert.KernelIdeal.defs₀ (F := Bits) := by
  funext k l a
  rcases k with _ | c | ⟨c, s⟩ <;> fin_cases l <;> rfl

theorem defs_same : (Cert.Kernel.defs (F := Bits)) = Cert.KernelIdeal.defs (F := Bits) :=
  congrArg (fun d => Cert.KernelIdeal.sc.defs (Pipeline.defs Cert.KernelIdeal.pcfgs d)) kernels_same

set_option maxRecDepth 20000 in
set_option maxHeartbeats 4000000 in
theorem threads_same : (Cert.Kernel.threads (F := Bits)) = Cert.KernelIdeal.threads (F := Bits) := rfl

theorem frame_printed : Cert.quiescent_Kernel := fun m g h => by
  have key := run (F := Bits) m g (list_ok m fun d => inVocab_of_fn _ (h d))
  rw [← defs_same, ← threads_same] at key
  exact (θ_run Cert.Kernel.defs _ _).mono (fun _ h => ⟨fun c => (h.1 c).2, h.2⟩) key

theorem frame_reference : Cert.quiescent_ReferenceIdeal := fun m g _ =>
  (θ_run Cert.ReferenceIdeal.defs _ _).mono (fun _ h => ⟨fun c => (h c).2, Idealize.ShloMosaic.sem_eq_zero_of_no_sems (by decide) _⟩)
    (Cert.ReferenceIdeal.Value.run (F := Ideal) m g)

end Cert.Proof

end
-- ==== Proof.Model.lean ====
/-
  THE MATHEMATICS, one row of the batch at a time, over the extended reals: the gates of an LSTM cell, the two layers
  step by step, and the dense head (`gatesV`, `cellC`, `cellH`, `first`, `second`, `head`); then the packed form of the
  two cells that the kernel computes, with both layers side by side in 128 lanes, the gates' columns scaled by one half
  and the logistic function written by tanh (`zP`, `cP`, `hP`). The packed cell is the two cells (`cP_join`, `hP_join`).
-/
module

public import Idealize.ShloMosaic.PureOps.Ideal
public import Idealize.ShloMosaic.Lib.Pointwise.Sums
public import Idealize.ShloMosaic.Lib.ValueIdx
public import Idealize.ShloMosaic.Lib.IdealHost

@[expose] public section

noncomputable section

namespace Cert.Proof

open Idealize.ShloMosaic hiding ix1 ix2 ix3
open Idealize.ShloMosaic.ValueIdx

/-- Row `r` of a matrix. -/
abbrev row {m n : ℕ} (A : (⟨2, ![m, n]⟩ : Shape).Idx → EReal) (r : Fin m) : Fin n → EReal := fun p => A (ix2 r p)
/-- A matrix by its two coordinates. -/
abbrev mat {m n : ℕ} (A : (⟨2, ![m, n]⟩ : Shape).Idx → EReal) : Fin m → Fin n → EReal := fun r p => A (ix2 r p)

theorem zero_word : Ideal.ofBits .f32 0x00000000#32 = 0 := by simp [Ideal.ofBits, Ideal.ieee]

/-! ## The logistic function by tanh -/

/-- One half. -/
def half : EReal := (((1 : ℝ) / 2 : ℝ) : EReal)

theorem half_pos : (0 : EReal) < half := by
  unfold half; exact_mod_cast (by norm_num : (0 : ℝ) < 1 / 2)

theorem half_ne_top : half ≠ ⊤ := EReal.coe_ne_top _

theorem real_half_tanh (r : ℝ) : 1 / 2 * Real.tanh (1 / 2 * r) + 1 / 2 = (1 + Real.exp (-r))⁻¹ := by
  have h2 : Real.exp (-r) = Real.exp (-(1 / 2 * r)) * Real.exp (-(1 / 2 * r)) := by rw [← Real.exp_add]; congr 1; ring
  rw [Real.tanh_eq_sinh_div_cosh, Real.sinh_eq, Real.cosh_eq, h2, Real.exp_neg]
  have ha : 0 < Real.exp (1 / 2 * r) := Real.exp_pos _
  generalize Real.exp (1 / 2 * r) = a at ha ⊢
  have h3 : a + a⁻¹ ≠ 0 := by positivity
  have h4 : 1 + a⁻¹ * a⁻¹ ≠ 0 := by positivity
  have h5 : a * a + 1 ≠ 0 := by positivity
  field_simp
  ring

/-- The kernel's spelling of the logistic function, on all extended reals. -/
theorem half_tanh (z : EReal) : half * Ideal.tanh (half * z) + half = Ideal.logistic z := by
  have hone : half * (-1) + half = 0 := by
    unfold half
    rw [show (-1 : EReal) = (((-1 : ℝ)) : EReal) by rw [EReal.coe_neg, EReal.coe_one], ← EReal.coe_mul, ← EReal.coe_add]
    norm_num
  have hone' : half * 1 + half = 1 := by
    rw [mul_one]; unfold half; rw [← EReal.coe_add]; norm_num
  induction z using EReal.rec with
  | bot =>
    have : half * ⊥ = ⊥ := EReal.mul_bot_of_pos half_pos
    rw [this, Ideal.tanh_bot, Ideal.logistic_bot, hone]
  | top =>
    have : half * ⊤ = ⊤ := EReal.mul_top_of_pos half_pos
    rw [this, Ideal.tanh_top, Ideal.logistic_top, hone']
  | coe r =>
    rw [Ideal.logistic_coe]
    unfold half
    rw [← EReal.coe_mul, Ideal.tanh_coe, ← EReal.coe_mul, ← EReal.coe_add, real_half_tanh]

/-- A finite scale that isn't negative goes through a sum. -/
theorem scale_sum {ι : Type} (t : Finset ι) (s : EReal) (h0 : 0 ≤ s) (h1 : s ≠ ⊤) (f : ι → EReal) :
    ∑ k ∈ t, s * f k = s * ∑ k ∈ t, f k := by
  classical
  induction t using Finset.induction_on with
  | empty => simp
  | insert a t ha ih => rw [Finset.sum_insert ha, Finset.sum_insert ha, ih, EReal.left_distrib_of_nonneg_of_ne_top h0 h1]

/-! ## The two layers -/

/-- The gates before their functions: input times weights, plus state times weights, plus bias. -/
def gatesV {n : ℕ} (x : Fin n → EReal) (h : Fin 64 → EReal) (wk : Fin n → Fin 256 → EReal) (wr : Fin 64 → Fin 256 → EReal)
    (b : Fin 256 → EReal) (q : Fin 256) : EReal :=
  (∑ k, x k * wk k q + ∑ k, h k * wr k q) + b q

/-- Column `j` of gate `g` among the 256. -/
def gc (g : Fin 4) (j : Fin 64) : Fin 256 := ⟨64 * g.val + j.val, by omega⟩

/-- The cell's new state c. -/
def cellC (z : Fin 256 → EReal) (c : Fin 64 → EReal) (j : Fin 64) : EReal :=
  Ideal.logistic (z (gc 1 j)) * c j + Ideal.logistic (z (gc 0 j)) * Ideal.tanh (z (gc 2 j))

/-- The cell's new state h. -/
def cellH (z : Fin 256 → EReal) (c : Fin 64 → EReal) (j : Fin 64) : EReal :=
  Ideal.logistic (z (gc 3 j)) * Ideal.tanh (cellC z c j)

/-- The weights of the two layers. -/
structure Par where
  wk0 : Fin 100 → Fin 256 → EReal
  wr0 : Fin 64 → Fin 256 → EReal
  b0 : Fin 256 → EReal
  wk1 : Fin 64 → Fin 256 → EReal
  wr1 : Fin 64 → Fin 256 → EReal
  b1 : Fin 256 → EReal

/-- The weights of the two layers, from the arrays that hold them. -/
def parOf (wk0 : FVec Ideal ⟨2, ![100, 256]⟩ .f32) (wr0 : FVec Ideal ⟨2, ![64, 256]⟩ .f32) (b0 : FVec Ideal ⟨1, ![256]⟩ .f32)
    (wk1 wr1 : FVec Ideal ⟨2, ![64, 256]⟩ .f32) (b1 : FVec Ideal ⟨1, ![256]⟩ .f32) : Par where
  wk0 := mat wk0
  wr0 := mat wr0
  b0 q := b0 (ix1 q)
  wk1 := mat wk1
  wr1 := mat wr1
  b1 q := b1 (ix1 q)

/-- The first layer's (h, c) after `t` inputs. -/
def first (P : Par) (x : ℕ → Fin 100 → EReal) : ℕ → (Fin 64 → EReal) × (Fin 64 → EReal)
  | 0 => (fun _ => 0, fun _ => 0)
  | t + 1 =>
    (cellH (gatesV (x t) (first P x t).1 P.wk0 P.wr0 P.b0) (first P x t).2,
     cellC (gatesV (x t) (first P x t).1 P.wk0 P.wr0 P.b0) (first P x t).2)

/-- The second layer's (h, c) after `t` inputs: its input is the first layer's h. -/
def second (P : Par) (x : ℕ → Fin 100 → EReal) : ℕ → (Fin 64 → EReal) × (Fin 64 → EReal)
  | 0 => (fun _ => 0, fun _ => 0)
  | t + 1 =>
    (cellH (gatesV (first P x (t + 1)).1 (second P x t).1 P.wk1 P.wr1 P.b1) (second P x t).2,
     cellC (gatesV (first P x (t + 1)).1 (second P x t).1 P.wk1 P.wr1 P.b1) (second P x t).2)

/-- The dense head: a layer with relu, a layer with one output, the logistic function. -/
def head (h : Fin 64 → EReal) (wd1 : Fin 64 → Fin 64 → EReal) (bd1 : Fin 64 → EReal) (wd2 : Fin 64 → EReal) (bd2 : EReal) : EReal :=
  Ideal.logistic (∑ j, max (∑ k, h k * wd1 k j + bd1 j) 0 * wd2 j + bd2)

/-! ## Both layers side by side -/

/-- Two vectors of 64 lanes, one after the other. -/
def join (a b : Fin 64 → EReal) (p : Fin 128) : EReal :=
  if h : p.val < 64 then a ⟨p.val, h⟩ else b ⟨p.val - 64, by omega⟩

/-- Lane `j` of the first, and of the second. -/
def lo (j : Fin 64) : Fin 128 := ⟨j.val, by omega⟩
def hi (j : Fin 64) : Fin 128 := ⟨64 + j.val, by omega⟩

@[simp] theorem join_lo (a b : Fin 64 → EReal) (j : Fin 64) : join a b (lo j) = a j := by simp [join, lo]
@[simp] theorem join_hi (a b : Fin 64 → EReal) (j : Fin 64) : join a b (hi j) = b j := by simp [join, hi]

theorem lo_or_hi (p : Fin 128) : (∃ j, p = lo j) ∨ ∃ j, p = hi j := by
  by_cases h : p.val < 64
  · exact .inl ⟨⟨p.val, h⟩, rfl⟩
  · exact .inr ⟨⟨p.val - 64, by omega⟩, Fin.ext (by show p.val = 64 + (p.val - 64); omega)⟩

/-- Two 128-lane functions that agree on both halves are one. -/
theorem ext_halves {f g : Fin 128 → EReal} (h0 : ∀ j, f (lo j) = g (lo j)) (h1 : ∀ j, f (hi j) = g (hi j)) : f = g := by
  funext p
  rcases lo_or_hi p with ⟨j, rfl⟩ | ⟨j, rfl⟩
  · exact h0 j
  · exact h1 j

/-- Lane `p` of gate `g` among the 512 columns. -/
def pc (g : Fin 4) (p : Fin 128) : Fin 512 := ⟨128 * g.val + p.val, by omega⟩

/-- Rows of the packed weights: the first 128 meet the states, the others the input. -/
def rs (k : Fin 128) : Fin 256 := ⟨k.val, by omega⟩
def rx (k : Fin 128) : Fin 256 := ⟨128 + k.val, by omega⟩

/-- The scale of a gate's columns. -/
def sc (g : Fin 4) : EReal := if g = 2 then 1 else half

theorem sc_nonneg (g : Fin 4) : 0 ≤ sc g := by unfold sc; split; exacts [zero_le_one, half_pos.le]
theorem sc_ne_top (g : Fin 4) : sc g ≠ ⊤ := by unfold sc; split; exacts [EReal.coe_ne_top 1, half_ne_top]

/-- The packed gates. -/
def zP (W : Fin 256 → Fin 512 → EReal) (B : Fin 512 → EReal) (H X : Fin 128 → EReal) (q : Fin 512) : EReal :=
  (∑ k, H k * W (rs k) q + ∑ k, X k * W (rx k) q) + B q

/-- The packed c. -/
def cP (Z : Fin 512 → EReal) (C : Fin 128 → EReal) (p : Fin 128) : EReal :=
  (half * Ideal.tanh (Z (pc 1 p)) + half) * C p + (half * Ideal.tanh (Z (pc 0 p)) + half) * Ideal.tanh (Z (pc 2 p))

/-- The packed h. -/
def hP (Z : Fin 512 → EReal) (C : Fin 128 → EReal) (p : Fin 128) : EReal :=
  (half * Ideal.tanh (Z (pc 3 p)) + half) * Ideal.tanh (cP Z C p)

/-- `W` and `B` hold the weights `P`, packed: what each entry is. -/
structure Packed (P : Par) (W : Fin 256 → Fin 512 → EReal) (B : Fin 512 → EReal) : Prop where
  in_h : ∀ g j k, W (rs (lo k)) (pc g (lo j)) = sc g * P.wr0 k (gc g j)
  in_z : ∀ g j k, W (rs (hi k)) (pc g (lo j)) = 0
  in_x : ∀ g j (k : Fin 100), W (rx ⟨k.val, by omega⟩) (pc g (lo j)) = sc g * P.wk0 k (gc g j)
  in_p : ∀ g j (k : Fin 28), W (rx ⟨100 + k.val, by omega⟩) (pc g (lo j)) = 0
  in_b : ∀ g j, B (pc g (lo j)) = sc g * P.b0 (gc g j)
  up_x : ∀ g j k, W (rs (lo k)) (pc g (hi j)) = sc g * P.wk1 k (gc g j)
  up_h : ∀ g j k, W (rs (hi k)) (pc g (hi j)) = sc g * P.wr1 k (gc g j)
  up_z : ∀ g j k, W (rx k) (pc g (hi j)) = 0
  up_b : ∀ g j, B (pc g (hi j)) = sc g * P.b1 (gc g j)

theorem sum_lo_hi (f : Fin 128 → EReal) : ∑ k, f k = (∑ k, f (lo k)) + ∑ k, f (hi k) :=
  Fin.sum_univ_two_halves 64 64 rfl f

section

variable {P : Par} {W : Fin 256 → Fin 512 → EReal} {B : Fin 512 → EReal} (hp : Packed P W B)

include hp

/-- The first layer's packed gates are its gates, scaled. -/
theorem zP_lo (h0 h1 : Fin 64 → EReal) (X : Fin 128 → EReal) (x : Fin 100 → EReal)
    (hx : ∀ k : Fin 100, X ⟨k.val, by omega⟩ = x k) (g : Fin 4) (j : Fin 64) :
    zP W B (join h0 h1) X (pc g (lo j)) = sc g * gatesV x h0 P.wk0 P.wr0 P.b0 (gc g j) := by
  have e1 : ∀ k, h0 k * (sc g * P.wr0 k (gc g j)) = sc g * (h0 k * P.wr0 k (gc g j)) := fun k => mul_left_comm _ _ _
  have e2 : ∀ k, x k * (sc g * P.wk0 k (gc g j)) = sc g * (x k * P.wk0 k (gc g j)) := fun k => mul_left_comm _ _ _
  unfold zP gatesV
  rw [sum_lo_hi, Fin.sum_univ_two_halves 100 28 rfl]
  simp only [join_lo, join_hi, hp.in_h, hp.in_z, hp.in_x, hp.in_p, hp.in_b, hx, mul_zero, Finset.sum_const_zero, add_zero, e1, e2,
    scale_sum _ _ (sc_nonneg g) (sc_ne_top g), EReal.left_distrib_of_nonneg_of_ne_top (sc_nonneg g) (sc_ne_top g)]
  congr 1
  exact add_comm _ _

/-- The second layer's packed gates are its gates, scaled. -/
theorem zP_hi (h0 h1 : Fin 64 → EReal) (X : Fin 128 → EReal) (g : Fin 4) (j : Fin 64) :
    zP W B (join h0 h1) X (pc g (hi j)) = sc g * gatesV h0 h1 P.wk1 P.wr1 P.b1 (gc g j) := by
  have e1 : ∀ k, h0 k * (sc g * P.wk1 k (gc g j)) = sc g * (h0 k * P.wk1 k (gc g j)) := fun k => mul_left_comm _ _ _
  have e2 : ∀ k, h1 k * (sc g * P.wr1 k (gc g j)) = sc g * (h1 k * P.wr1 k (gc g j)) := fun k => mul_left_comm _ _ _
  unfold zP gatesV
  rw [sum_lo_hi]
  simp only [join_lo, join_hi, hp.up_x, hp.up_h, hp.up_z, hp.up_b, mul_zero, Finset.sum_const_zero, add_zero, e1, e2,
    scale_sum _ _ (sc_nonneg g) (sc_ne_top g), EReal.left_distrib_of_nonneg_of_ne_top (sc_nonneg g) (sc_ne_top g)]

/-- The packed c is the two cells' c. -/
theorem cP_join (h0 h1 c0 c1 : Fin 64 → EReal) (X : Fin 128 → EReal) (x : Fin 100 → EReal)
    (hx : ∀ k : Fin 100, X ⟨k.val, by omega⟩ = x k) :
    cP (zP W B (join h0 h1) X) (join c0 c1)
      = join (cellC (gatesV x h0 P.wk0 P.wr0 P.b0) c0) (cellC (gatesV h0 h1 P.wk1 P.wr1 P.b1) c1) := by
  refine ext_halves (fun j => ?_) fun j => ?_
  · simp only [cP, zP_lo hp h0 h1 X x hx, join_lo, cellC]
    simp only [sc, show (1 : Fin 4) ≠ 2 by decide, show (0 : Fin 4) ≠ 2 by decide, if_false, if_true, half_tanh, one_mul]
  · simp only [cP, zP_hi hp h0 h1 X, join_hi, cellC]
    simp only [sc, show (1 : Fin 4) ≠ 2 by decide, show (0 : Fin 4) ≠ 2 by decide, if_false, if_true, half_tanh, one_mul]

/-- The packed h is the two cells' h. -/
theorem hP_join (h0 h1 c0 c1 : Fin 64 → EReal) (X : Fin 128 → EReal) (x : Fin 100 → EReal)
    (hx : ∀ k : Fin 100, X ⟨k.val, by omega⟩ = x k) :
    hP (zP W B (join h0 h1) X) (join c0 c1)
      = join (cellH (gatesV x h0 P.wk0 P.wr0 P.b0) c0) (cellH (gatesV h0 h1 P.wk1 P.wr1 P.b1) c1) := by
  refine ext_halves (fun j => ?_) fun j => ?_
  · simp only [hP, cP_join hp h0 h1 c0 c1 X x hx, zP_lo hp h0 h1 X x hx, join_lo, cellH]
    simp only [sc, show (3 : Fin 4) ≠ 2 by decide, if_false, half_tanh]
  · simp only [hP, cP_join hp h0 h1 c0 c1 X x hx, zP_hi hp h0 h1 X, join_hi, cellH]
    simp only [sc, show (3 : Fin 4) ≠ 2 by decide, if_false, half_tanh]

end

/-- What the packed carry holds before trip `k`: the first layer after `k + 1` inputs beside the second after `k`. -/
def packedH (P : Par) (x : ℕ → Fin 100 → EReal) (k : ℕ) : Fin 128 → EReal := join (first P x (k + 1)).1 (second P x k).1
def packedC (P : Par) (x : ℕ → Fin 100 → EReal) (k : ℕ) : Fin 128 → EReal := join (first P x (k + 1)).2 (second P x k).2

section

variable {P : Par} {W : Fin 256 → Fin 512 → EReal} {B : Fin 512 → EReal} (hp : Packed P W B) (x : ℕ → Fin 100 → EReal)

include hp

/-- One packed step. -/
theorem packedC_succ (k : ℕ) (X : Fin 128 → EReal) (hx : ∀ i : Fin 100, X ⟨i.val, by omega⟩ = x (k + 1) i) :
    cP (zP W B (packedH P x k) X) (packedC P x k) = packedC P x (k + 1) :=
  cP_join hp _ _ _ _ X (x (k + 1)) hx

theorem packedH_succ (k : ℕ) (X : Fin 128 → EReal) (hx : ∀ i : Fin 100, X ⟨i.val, by omega⟩ = x (k + 1) i) :
    hP (zP W B (packedH P x k) X) (packedC P x k) = packedH P x (k + 1) :=
  hP_join hp _ _ _ _ X (x (k + 1)) hx

/-- The step from the zero states: the first layer's half of it, zeros in the second's. -/
theorem packedC_zero (X : Fin 128 → EReal) (hx : ∀ i : Fin 100, X ⟨i.val, by omega⟩ = x 0 i) (j : Fin 64) :
    cP (zP W B (fun _ => 0) X) (fun _ => 0) (lo j) = packedC P x 0 (lo j) := by
  have e : (fun _ : Fin 128 => (0 : EReal)) = join (fun _ => 0) (fun _ => 0) := by funext p; simp [join]
  rw [e, cP_join hp _ _ _ _ X (x 0) hx, join_lo, packedC, join_lo]; rfl

theorem packedH_zero (X : Fin 128 → EReal) (hx : ∀ i : Fin 100, X ⟨i.val, by omega⟩ = x 0 i) (j : Fin 64) :
    hP (zP W B (fun _ => 0) X) (fun _ => 0) (lo j) = packedH P x 0 (lo j) := by
  have e : (fun _ : Fin 128 => (0 : EReal)) = join (fun _ => 0) (fun _ => 0) := by funext p; simp [join]
  rw [e, hP_join hp _ _ _ _ X (x 0) hx, join_lo, packedH, join_lo]; rfl

end

theorem packedC_zero_hi (P : Par) (x : ℕ → Fin 100 → EReal) (j : Fin 64) : packedC P x 0 (hi j) = 0 := by
  rw [packedC, join_hi]; rfl
theorem packedH_zero_hi (P : Par) (x : ℕ → Fin 100 → EReal) (j : Fin 64) : packedH P x 0 (hi j) = 0 := by
  rw [packedH, join_hi]; rfl

end Cert.Proof

end
-- ==== Proof.Cells.lean ====
/-
  WHAT THE KERNEL'S VECTORS HOLD, row by row, over the extended reals: the gates of a step are `zP` of that row
  (`gates_at`), the new states `cP` and `hP` (`newC_at`, `newH_at`, and the other half's `newC_at'`, `newH_at'`), the step
  before the loop from zero states (`init_c`, `init_h`), and the stored result the dense head (`stored_at`).
-/
module

public import proofs.«01_k».proof.Proof.Body
public import proofs.«01_k».proof.Proof.Model
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.Value

@[expose] public section

set_option maxRecDepth 8192

noncomputable section

namespace Cert.Proof

open Cert.KernelIdeal Cert.KernelIdeal.Gen
open Idealize.ShloMosaic hiding ix1 ix2 ix3
open Idealize.ShloMosaic.ValueIdx

theorem half_word : Ideal.ofBits .f32 0x3F000000#32 = half := by
  unfold half
  simp [Ideal.ofBits, Ideal.ieee]
  rw [← EReal.coe_mul]
  norm_num

/-- States and input side by side: the first 128 columns are the states. -/
theorem beside_lo (H X : FVec Ideal S64x128 .f32) (r : Fin 64) (k : Fin 128) :
    concatenate S64x256 1 [⟨S64x128, H⟩, ⟨S64x128, X⟩] concatenates_S64x128_S64x128_S64x256_d1 (ix2 r (rs k)) = H (ix2 r k) :=
  concatenate_pair_apply_left (t := S64x256) (s₁ := S64x128) (s₂ := S64x128) 1 H X _ (ix2 r (rs k)) rfl (ix2 r k) fun b => by match b with | ⟨0, _⟩ => rfl | ⟨1, _⟩ => rfl

theorem beside_hi (H X : FVec Ideal S64x128 .f32) (r : Fin 64) (k : Fin 128) :
    concatenate S64x256 1 [⟨S64x128, H⟩, ⟨S64x128, X⟩] concatenates_S64x128_S64x128_S64x256_d1 (ix2 r (rx k)) = X (ix2 r k) :=
  concatenate_pair_apply_right (t := S64x256) (s₁ := S64x128) (s₂ := S64x128) 1 H X _ (ix2 r (rx k)) rfl rfl (ix2 r k)
    (fun b hb => by match b with | ⟨0, _⟩ => rfl | ⟨1, _⟩ => exact absurd rfl hb)
    (by show k.val + 128 = 128 + k.val; omega)

/-- **The gates of a step.** -/
theorem gates_at (H X : FVec Ideal S64x128 .f32) (W : FVec Ideal S256x512 .f32) (b : FVec Ideal S1x512 .f32) (r : Fin 64) (q : Fin 512) :
    k1_pay1 H X W b (ix2 r q) = zP (mat W) (row b 0) (row H r) (row X r) q := by
  show addf (matmul dot_S64x256_S256x512_S64x512_1_0_0_1_n_n none
      (concatenate S64x256 1 [⟨S64x128, H⟩, ⟨S64x128, shapeCast S64x128 X shapeCasts_S64x128_S64x128⟩] concatenates_S64x128_S64x128_S64x256_d1)
      (shapeCast S256x512 W shapeCasts_S256x512_S256x512) (constant S64x512 .f32 0x00000000#32))
    (broadcastTo S64x512 (shapeCast S1x512 b shapeCasts_S1x512_S1x512) broadcasts_S1x512_S64x512) (ix2 r q) = _
  rw [addf_apply, shapeCast_self, shapeCast_self, shapeCast_self, broadcastTo_1b_ab_apply]
  refine congrArg (· + _) ?_
  refine (Ideal.matmul_plain_apply (M := 64) (K := 256) (N := 512) none _ _ _ r q).trans ?_
  rw [constant_apply, zero_word, zero_add, Fin.sum_univ_two_halves 128 128 rfl]
  exact congrArg₂ (· + ·)
    (Finset.sum_congr rfl fun k _ => congrArg (· * _) (beside_lo H X r k))
    (Finset.sum_congr rfl fun k _ => congrArg (· * _) (beside_hi H X r k))

theorem gates_row (H X : FVec Ideal S64x128 .f32) (W : FVec Ideal S256x512 .f32) (b : FVec Ideal S1x512 .f32) (r : Fin 64) :
    row (k1_pay1 H X W b) r = zP (mat W) (row b 0) (row H r) (row X r) := funext fun q => gates_at H X W b r q

/-- A gate's columns. -/
theorem cols_at {m : ℕ} (A : (⟨2, ![m, 512]⟩ : Shape).Idx → EReal) (g : Fin 4) (o : ℕ) (ho : o = 128 * g.val)
    (h : (⟨2, ![m, 512]⟩ : Shape).Slices ![0, o] ⟨2, ![m, 128]⟩) (r : Fin m) (p : Fin 128) :
    extractStridedSlice ⟨2, ![m, 128]⟩ ![0, o] A h (ix2 r p) = A (ix2 r (pc g p)) :=
  slice2_axis1_apply o A h r p (pc g p) (by subst ho; rfl)

/-- The kernel's spelling of the logistic function at an entry. -/
theorem squash_at (Z : FVec Ideal S64x512 .f32) (i : S64x512.Idx) : k1_pay4 Z i = half * Ideal.tanh (Z i) + half := by
  show Ideal.ofBits .f32 0x3F000000#32 * Ideal.tanh (Z i) + Ideal.ofBits .f32 0x3F000000#32 = _
  rw [half_word]

/-- **The second half's new c.** -/
theorem newC_at (C : FVec Ideal S64x128 .f32) (Z : FVec Ideal S64x512 .f32) (r : Fin 64) (p : Fin 128) :
    k1_pay5 C Z (ix2 r p) = cP (row Z r) (row C r) p := by
  show addf (mulf (extractStridedSlice S64x128 ![0, 128] (k1_pay4 Z) slices_S64x512_o0_128_S64x128) C)
    (mulf (extractStridedSlice S64x128 ![0, 0] (k1_pay4 Z) slices_S64x512_o0_0_S64x128)
      (extractStridedSlice S64x128 ![0, 256] (k1_pay3 Z) slices_S64x512_o0_256_S64x128)) (ix2 r p) = _
  rw [addf_apply, mulf_apply, mulf_apply, cols_at _ 1 128 rfl, cols_at _ 0 0 rfl, cols_at _ 2 256 rfl, squash_at, squash_at]
  rfl

/-- **The second half's new h.** -/
theorem newH_at (C : FVec Ideal S64x128 .f32) (Z : FVec Ideal S64x512 .f32) (r : Fin 64) (p : Fin 128) :
    k1_pay6 C Z (ix2 r p) = hP (row Z r) (row C r) p := by
  show mulf (extractStridedSlice S64x128 ![0, 384] (k1_pay4 Z) slices_S64x512_o0_384_S64x128) (tanh (k1_pay5 C Z)) (ix2 r p) = _
  rw [mulf_apply, cols_at _ 3 384 rfl, squash_at]
  exact congrArg (_ * Ideal.tanh ·) (newC_at C Z r p)

/-- The first half's step is the same one, from its own gates. -/
theorem newC_same (H C X : FVec Ideal S64x128 .f32) (W : FVec Ideal S256x512 .f32) (b : FVec Ideal S1x512 .f32) :
    k1_pay9 H C X W b = k1_pay5 C (k1_pay1 H X W b) := rfl
theorem newH_same (H C X : FVec Ideal S64x128 .f32) (W : FVec Ideal S256x512 .f32) (b : FVec Ideal S1x512 .f32) :
    k1_pay10 H C X W b = k1_pay6 C (k1_pay1 H X W b) := rfl

/-! ## The step before the loop -/

section Init

variable (X : FVec Ideal S128x128 .f32) (w : FVec Ideal S128x512 .f32) (b : FVec Ideal S1x512 .f32)
variable (W : Fin 256 → Fin 512 → EReal) (hw : ∀ k q, w (ix2 k q) = W (rx k) q)

include hw

/-- Its gates: no states, so their rows count for nothing. -/
theorem init_gates (r : Fin 128) (q : Fin 512) :
    k1_pay12 (F := Ideal) X w b (ix2 r q) = Ideal.tanh (zP W (row b 0) (fun _ => 0) (row X r) q) := by
  show Ideal.tanh (addf (matmul dot_S128x128_S128x512_S128x512_1_0_0_1_n_n none
      (shapeCast S128x128 X shapeCasts_S128x128_S128x128) (shapeCast S128x512 w shapeCasts_S128x512_S128x512) (constant S128x512 .f32 0x00000000#32))
    (broadcastTo S128x512 (shapeCast S1x512 b shapeCasts_S1x512_S1x512) broadcasts_S1x512_S128x512) (ix2 r q)) = _
  refine congrArg Ideal.tanh ?_
  rw [addf_apply, shapeCast_self, shapeCast_self, shapeCast_self, broadcastTo_1b_ab_apply]
  refine congrArg (· + _) ?_
  refine (Ideal.matmul_plain_apply (M := 128) (K := 128) (N := 512) none _ _ _ r q).trans ?_
  simp only [constant_apply, zero_word, zero_mul, Finset.sum_const_zero, hw]

theorem init_squash (r : Fin 128) (q : Fin 512) :
    k1_pay13 (F := Ideal) X w b (ix2 r q) = half * Ideal.tanh (zP W (row b 0) (fun _ => 0) (row X r) q) + half := by
  show Ideal.ofBits .f32 0x3F000000#32 * k1_pay12 (F := Ideal) X w b (ix2 r q) + Ideal.ofBits .f32 0x3F000000#32 = _
  rw [half_word, init_gates X w b W hw]

omit hw in
theorem lane_of (r : Fin 128) (p : Fin 128) : (k1_pay11 (ix2 r p) = 1#1) ↔ 64 ≤ p.val := by
  have e : k1_pay11 (ix2 r p) = IntOp.cmpi .sge (BitVec.ofNat 32 p.val) 64#32 :=
    congrArg (IntOp.cmpi .sge · 64#32) (iota_single_apply .tc S128x128 32 1 _ (ix2 r p))
  rw [e]
  clear e
  revert p
  decide +kernel

omit hw in
theorem lane_lo (r : Fin 128) (j : Fin 64) : k1_pay11 (ix2 r (lo j)) = 0#1 :=
  eq_zero_of_ne_one fun h => by have := (lane_of r (lo j)).mp h; have : 64 ≤ j.val := this; omega
omit hw in
theorem lane_hi (r : Fin 128) (j : Fin 64) : k1_pay11 (ix2 r (hi j)) = 1#1 :=
  (lane_of r (hi j)).mpr (Nat.le_add_right 64 j.val)

/-- **c after the first input.** -/
theorem init_c_lo (r : Fin 128) (j : Fin 64) :
    k1_pay14 (F := Ideal) X w b (ix2 r (lo j)) = cP (zP W (row b 0) (fun _ => 0) (row X r)) (fun _ => 0) (lo j) := by
  show select k1_pay11 _ (mulf (extractStridedSlice S128x128 ![0, 0] (k1_pay13 (F := Ideal) X w b) slices_S128x512_o0_0_S128x128)
    (extractStridedSlice S128x128 ![0, 256] (k1_pay12 (F := Ideal) X w b) slices_S128x512_o0_256_S128x128)) (ix2 r (lo j)) = _
  rw [select_apply, lane_lo, select_zero, mulf_apply, cols_at _ 0 0 rfl, cols_at _ 2 256 rfl, init_squash X w b W hw, init_gates X w b W hw]
  unfold cP
  rw [mul_zero, zero_add]

omit hw in
theorem init_c_hi (r : Fin 128) (j : Fin 64) : k1_pay14 (F := Ideal) X w b (ix2 r (hi j)) = 0 := by
  show Scalar.select (k1_pay11 (ix2 r (hi j))) (Ideal.ofBits .f32 0x00000000#32) _ = _
  rw [lane_hi, select_one, zero_word]

/-- **h after the first input.** -/
theorem init_h_lo (r : Fin 128) (j : Fin 64) :
    k1_pay15 (F := Ideal) X w b (ix2 r (lo j)) = hP (zP W (row b 0) (fun _ => 0) (row X r)) (fun _ => 0) (lo j) := by
  show select k1_pay11 _ (mulf (extractStridedSlice S128x128 ![0, 384] (k1_pay13 (F := Ideal) X w b) slices_S128x512_o0_384_S128x128)
    (tanh (k1_pay14 (F := Ideal) X w b))) (ix2 r (lo j)) = _
  rw [select_apply, lane_lo, select_zero, mulf_apply, cols_at _ 3 384 rfl, init_squash X w b W hw]
  exact congrArg (_ * Ideal.tanh ·) (init_c_lo X w b W hw r j)

omit hw in
theorem init_h_hi (r : Fin 128) (j : Fin 64) : k1_pay15 (F := Ideal) X w b (ix2 r (hi j)) = 0 := by
  show Scalar.select (k1_pay11 (ix2 r (hi j))) (Ideal.ofBits .f32 0x00000000#32) _ = _
  rw [lane_hi, select_one, zero_word]

end Init

/-! ## The stored result -/

/-- Both halves of the batch, one over the other. -/
def overRow (A B : FVec Ideal S64x128 .f32) (r : Fin 128) : Fin 128 → EReal :=
  if h : r.val < 64 then row A ⟨r.val, h⟩ else row B ⟨r.val - 64, by omega⟩

theorem over_at (A B : FVec Ideal S64x128 .f32) (r : Fin 128) (p : Fin 128) :
    concatenate S128x128 0 [⟨S64x128, A⟩, ⟨S64x128, B⟩] concatenates_S64x128_S64x128_S128x128_d0 (ix2 r p) = overRow A B r p := by
  unfold overRow
  split
  case isTrue h =>
    exact concatenate_pair_apply_left (t := S128x128) (s₁ := S64x128) (s₂ := S64x128) 0 A B _ (ix2 r p) rfl (ix2 ⟨r.val, h⟩ p) fun b => by match b with | ⟨0, _⟩ => rfl | ⟨1, _⟩ => rfl
  case isFalse h =>
    exact concatenate_pair_apply_right (t := S128x128) (s₁ := S64x128) (s₂ := S64x128) 0 A B _ (ix2 r p) rfl rfl (ix2 ⟨r.val - 64, by omega⟩ p)
      (fun b hb => by match b with | ⟨0, _⟩ => exact absurd rfl hb | ⟨1, _⟩ => rfl)
      (by show r.val - 64 + 64 = r.val; omega)

/-- **The stored result** is the dense head of the second layer's h. -/
theorem stored_at (A B : FVec Ideal S64x128 .f32) (wd1 : FVec Ideal S64x64 .f32) (bd1 : FVec Ideal S1x64 .f32)
    (wd2 : FVec Ideal S64x1 .f32) (bd2 : FVec Ideal S1x1 .f32) (r : Fin 128) :
    k1_pay2 A B wd1 bd1 wd2 bd2 (ix2 r (0 : Fin 1))
      = head (fun j => overRow A B r (hi j)) (mat wd1) (row bd1 0) (fun j => wd2 (ix2 j (0 : Fin 1))) (bd2 (ix2 (0 : Fin 1) (0 : Fin 1))) := by
  have hidden : ∀ j : Fin 64, maximumf (addf (matmul dot_S128x64_S64x64_S128x64_1_0_0_1_n_n none
        (extractStridedSlice S128x64 ![0, 64] (concatenate S128x128 0 [⟨S64x128, A⟩, ⟨S64x128, B⟩] concatenates_S64x128_S64x128_S128x128_d0)
          slices_S128x128_o0_64_S128x64) wd1 (constant S128x64 .f32 0x00000000#32))
        (broadcastTo S128x64 (shapeCast S1x64 bd1 shapeCasts_S1x64_S1x64) broadcasts_S1x64_S128x64))
      (broadcast S128x64 (Ideal.ofBits .f32 0x00000000#32) : FVec Ideal S128x64 .f32) (ix2 r j)
        = max (∑ k, overRow A B r (hi k) * wd1 (ix2 k j) + bd1 (ix2 (0 : Fin 1) j)) 0 := fun j => by
    rw [maximumf_apply, addf_apply, shapeCast_self, broadcastTo_1b_ab_apply, broadcast_apply, zero_word]
    refine congrArg (fun s : EReal => max (s + _) _) ?_
    refine (Ideal.matmul_plain_apply (M := 128) (K := 64) (N := 64) none _ _ _ r j).trans ?_
    rw [constant_apply, zero_word, zero_add]
    refine Finset.sum_congr rfl fun k _ => congrArg (· * _) ?_
    exact (slice2_axis1_apply 64 _ _ r k (hi k) rfl).trans (over_at A B r (hi k))
  show Ideal.logistic (addf (matmul dot_S128x64_S64x1_S128x1_1_0_0_1_n_n none _ wd2 (constant S128x1 .f32 0x00000000#32))
    (broadcastTo S128x1 (shapeCast S1x1 bd2 shapeCasts_S1x1_S1x1) broadcasts_S1x1_S128x1) (ix2 r (0 : Fin 1))) = _
  unfold head
  refine congrArg Ideal.logistic ?_
  rw [addf_apply, broadcastTo_1b_ab_apply]
  refine congrArg₂ (fun s u : EReal => s + u) ?_ (congrFun (shapeCast_self bd2 _) _)
  refine (Ideal.matmul_plain_apply (M := 128) (K := 64) (N := 1) none _ _ _ r 0).trans ?_
  rw [constant_apply, zero_word, zero_add]
  exact Finset.sum_congr rfl fun j _ => congrArg (· * _) (hidden j)

end Cert.Proof

end
-- ==== Proof.Pack.lean ====
/-
  THE PACKED WEIGHTS, entry by entry, over the extended reals: the arrays that @main lays out for the kernel are the
  weights of the two layers, packed (`packed`).
-/
module

public import proofs.«01_k».proof.Proof.HostOps
public import proofs.«01_k».proof.Proof.Cells

@[expose] public section

set_option maxRecDepth 8192

noncomputable section

namespace Cert.Proof

open Cert.KernelIdeal Cert.KernelIdeal.Gen
open Idealize.ShloMosaic hiding ix1 ix2 ix3
open Idealize.ShloMosaic.ValueIdx

/-- The word of a gate's scale. -/
def sw (g : Fin 4) : BitVec 32 := if g = 2 then 0x3F800000#32 else 0x3F000000#32

theorem sw_val (g : Fin 4) : Ideal.ofBits .f32 (sw g) = sc g := by
  unfold sw sc
  split
  · exact Ideal.ofBits_one_f32
  · exact half_word

theorem slices_64 : ∀ g : Fin 4, S64x256.Slices ![0, 64 * g.val] S64x64 := by decide
theorem slices_128 : ∀ g : Fin 4, S128x256.Slices ![0, 64 * g.val] S128x64 := by decide
theorem slices_b : ∀ g : Fin 4, S256.Slices ![64 * g.val] S64 := by decide

/-! ## Three blocks of rows -/

section Rows

variable (A B : FVec Ideal S64x64 .f32) (C : FVec Ideal S128x64 .f32) (j : Fin 64)

theorem rows_a (k : Fin 64) :
    concatenate S256x64 0 [⟨S64x64, A⟩, ⟨S64x64, B⟩, ⟨S128x64, C⟩] concatenates_S64x64_S64x64_S128x64_S256x64_d0 (ix2 (rs (lo k)) j) = A (ix2 k j) :=
  concatenate_apply_piece (t := S256x64) 0 _ _ (ix2 (rs (lo k)) j) 0 (by simp) S64x64 A rfl rfl 0 rfl (ix2 k j)
    (fun b hb => by match b with | ⟨0, _⟩ => exact absurd rfl hb | ⟨1, _⟩ => rfl) (Nat.zero_add _)

theorem rows_b (k : Fin 64) :
    concatenate S256x64 0 [⟨S64x64, A⟩, ⟨S64x64, B⟩, ⟨S128x64, C⟩] concatenates_S64x64_S64x64_S128x64_S256x64_d0 (ix2 (rs (hi k)) j) = B (ix2 k j) :=
  concatenate_apply_piece (t := S256x64) 0 _ _ (ix2 (rs (hi k)) j) 1 (by simp) S64x64 B rfl rfl 64 rfl (ix2 k j)
    (fun b hb => by match b with | ⟨0, _⟩ => exact absurd rfl hb | ⟨1, _⟩ => rfl) rfl

theorem rows_c (k : Fin 128) :
    concatenate S256x64 0 [⟨S64x64, A⟩, ⟨S64x64, B⟩, ⟨S128x64, C⟩] concatenates_S64x64_S64x64_S128x64_S256x64_d0 (ix2 (rx k) j) = C (ix2 k j) :=
  concatenate_apply_piece (t := S256x64) 0 _ _ (ix2 (rx k) j) 2 (by simp) S128x64 C rfl rfl 128 rfl (ix2 k j)
    (fun b hb => by match b with | ⟨0, _⟩ => exact absurd rfl hb | ⟨1, _⟩ => rfl) rfl

end Rows

/-- A zero block. -/
theorem zeros_at {t : Shape} (h : S_.BroadcastsInDim t ![]) (i : t.Idx) :
    broadcastInDim t ![] h (constant S_ .f32 0x00000000#32 : FVec Ideal S_ .f32) i = 0 :=
  (broadcastInDim_scalar_apply h _ i).trans zero_word

/-- A splat of a word. -/
theorem splat_at {t : Shape} (s : BitVec 32) (h : S_.BroadcastsInDim t ![]) (i : t.Idx) :
    broadcastInDim t ![] h (constant S_ .f32 s : FVec Ideal S_ .f32) i = Ideal.ofBits .f32 s :=
  broadcastInDim_scalar_apply h _ i

/-- The padded input weights: the weights, then zeros. -/
theorem padW_in (w : FVec Ideal S100x256 .f32) (k : Fin 100) (q : Fin 256) :
    padW w (ix2 (⟨k.val, by omega⟩ : Fin 128) q) = w (ix2 k q) :=
  concatenate_pair_apply_left (t := S128x256) (s₁ := S100x256) (s₂ := S28x256) 0 w _ _ (ix2 (⟨k.val, by omega⟩ : Fin 128) q) rfl (ix2 k q) fun b => by match b with | ⟨0, _⟩ => rfl | ⟨1, _⟩ => rfl

theorem padW_out (w : FVec Ideal S100x256 .f32) (k : Fin 28) (q : Fin 256) :
    padW w (ix2 (⟨100 + k.val, by omega⟩ : Fin 128) q) = 0 :=
  (concatenate_pair_apply_right (t := S128x256) (s₁ := S100x256) (s₂ := S28x256) 0 w _ _ (ix2 (⟨100 + k.val, by omega⟩ : Fin 128) q) rfl rfl (ix2 k q)
    (fun b hb => by match b with | ⟨0, _⟩ => exact absurd rfl hb | ⟨1, _⟩ => rfl)
    (by show k.val + 100 = 100 + k.val; omega)).trans (zeros_at _ _)

/-! ## The columns of one gate -/

section Blocks

variable (wk0 : FVec Ideal S100x256 .f32) (wr0 wk1 wr1 : FVec Ideal S64x256 .f32) (b : FVec Ideal S256 .f32) (g : Fin 4) (j : Fin 64)

abbrev blkIn : FVec Ideal S256x64 .f32 := blockIn (sw g) (64 * g.val) (slices_64 g) (slices_128 g) wk0 wr0
abbrev blkUp : FVec Ideal S256x64 .f32 := blockUp (sw g) (64 * g.val) (slices_64 g) wk1 wr1
abbrev blkB : FVec Ideal S64 .f32 := biasBlock (sw g) (64 * g.val) (slices_b g) b

theorem blkIn_h (k : Fin 64) : blkIn wk0 wr0 g (ix2 (rs (lo k)) j) = sc g * wr0 (ix2 k (gc g j)) := by
  unfold blkIn blockIn
  rw [mulf_apply, splat_at, sw_val, rows_a]
  exact congrArg (_ * ·) (slice2_axis1_apply _ wr0 _ k j (gc g j) rfl)

theorem blkIn_z (k : Fin 64) : blkIn wk0 wr0 g (ix2 (rs (hi k)) j) = 0 := by
  unfold blkIn blockIn
  rw [mulf_apply, rows_b, zeros_at, mul_zero]

theorem blkIn_x (k : Fin 100) : blkIn wk0 wr0 g (ix2 (rx ⟨k.val, by omega⟩) j) = sc g * wk0 (ix2 k (gc g j)) := by
  unfold blkIn blockIn
  rw [mulf_apply, splat_at, sw_val, rows_c]
  exact congrArg (_ * ·) ((slice2_axis1_apply _ (padW wk0) _ _ j (gc g j) rfl).trans (padW_in wk0 k _))

theorem blkIn_p (k : Fin 28) : blkIn wk0 wr0 g (ix2 (rx ⟨100 + k.val, by omega⟩) j) = 0 := by
  unfold blkIn blockIn
  rw [mulf_apply, rows_c, slice2_axis1_apply _ (padW wk0) _ _ j (gc g j) rfl, padW_out, mul_zero]

theorem blkUp_x (k : Fin 64) : blkUp wk1 wr1 g (ix2 (rs (lo k)) j) = sc g * wk1 (ix2 k (gc g j)) := by
  unfold blkUp blockUp
  rw [rows_a, mulf_apply, splat_at, sw_val]
  exact congrArg (_ * ·) (slice2_axis1_apply _ wk1 _ k j (gc g j) rfl)

theorem blkUp_h (k : Fin 64) : blkUp wk1 wr1 g (ix2 (rs (hi k)) j) = sc g * wr1 (ix2 k (gc g j)) := by
  unfold blkUp blockUp
  rw [rows_b, mulf_apply, splat_at, sw_val]
  exact congrArg (_ * ·) (slice2_axis1_apply _ wr1 _ k j (gc g j) rfl)

theorem blkUp_z (k : Fin 128) : blkUp wk1 wr1 g (ix2 (rx k) j) = 0 := by
  unfold blkUp blockUp
  rw [rows_c, zeros_at]

theorem blkB_at : blkB b g (ix1 j) = sc g * b (ix1 (gc g j)) := by
  unfold blkB biasBlock
  rw [mulf_apply, splat_at, sw_val]
  exact congrArg (_ * ·) (extractStridedSlice_apply _ _ _ _ (ix1 (gc g j)) fun a => by match a with | ⟨0, _⟩ => rfl)

end Blocks

/-! ## All columns -/

/-- Which of the eight blocks a column lies in, and where. -/
theorem col_lo (g : Fin 4) (j : Fin 64) : (pc g (lo j)).val / 64 = 2 * g.val ∧ (pc g (lo j)).val % 64 = j.val := by
  have : (pc g (lo j)).val = 128 * g.val + j.val := rfl
  omega
theorem col_hi (g : Fin 4) (j : Fin 64) : (pc g (hi j)).val / 64 = 2 * g.val + 1 ∧ (pc g (hi j)).val % 64 = j.val := by
  have : (pc g (hi j)).val = 128 * g.val + (64 + j.val) := rfl
  omega

/-- The eight blocks: the two layers take turns. -/
def turns {α : Type} (a b : Fin 4 → α) (n : Fin 8) : α := if n.val % 2 = 0 then a ⟨n.val / 2, by omega⟩ else b ⟨n.val / 2, by omega⟩

theorem turns_even {α : Type} (a b : Fin 4 → α) (g : Fin 4) : turns a b ⟨2 * g.val, by omega⟩ = a g := by
  unfold turns; rw [if_pos (by simp)]; congr 1; ext; simp
theorem turns_odd {α : Type} (a b : Fin 4 → α) (g : Fin 4) : turns a b ⟨2 * g.val + 1, by omega⟩ = b g := by
  unfold turns; rw [if_neg (by simp)]; congr 1; ext; simp; omega

section All

variable (wk0 : FVec Ideal S100x256 .f32) (wr0 wk1 wr1 : FVec Ideal S64x256 .f32) (b0 b1 : FVec Ideal S256 .f32)

abbrev wBlocks : Fin 8 → FVec Ideal S256x64 .f32 := turns (blkIn wk0 wr0) (blkUp wk1 wr1)
abbrev bBlocks : Fin 8 → FVec Ideal S64 .f32 := turns (blkB b0) (blkB b1)

theorem packW_at (k : Fin 256) (q : Fin 512) (n : Fin 8) (j : Fin 64) (hn : q.val / 64 = n.val) (hj : q.val % 64 = j.val) :
    packW wk0 wr0 wk1 wr1 (ix2 k q) = wBlocks wk0 wr0 wk1 wr1 n (ix2 k j) :=
  concatenate_ofFn_apply (t := S256x512) (s₁ := S256x64) 1 (wBlocks wk0 wr0 wk1 wr1)
    concatenates_S256x64_S256x64_S256x64_S256x64_S256x64_S256x64_S256x64_S256x64_S256x512_d1 rfl 64 rfl (ix2 k q) n hn (ix2 k j) hj.symm
    fun b hb => by match b with | ⟨0, _⟩ => rfl | ⟨1, _⟩ => exact absurd rfl hb

theorem packB_at (q : Fin 512) (n : Fin 8) (j : Fin 64) (hn : q.val / 64 = n.val) (hj : q.val % 64 = j.val) :
    packB b0 b1 (ix2 (0 : Fin 1) q) = bBlocks b0 b1 n (ix1 j) :=
  (shapeCast_a_1a_apply _ _ 0 q).trans
    (concatenate_ofFn_apply (t := S512) (s₁ := S64) 0 (bBlocks b0 b1)
      concatenates_S64_S64_S64_S64_S64_S64_S64_S64_S512_d0 rfl 64 rfl (ix1 q) n hn (ix1 j) hj.symm
      fun b hb => by match b with | ⟨0, _⟩ => exact absurd rfl hb)

theorem packW_lo (k : Fin 256) (g : Fin 4) (j : Fin 64) :
    packW wk0 wr0 wk1 wr1 (ix2 k (pc g (lo j))) = blkIn wk0 wr0 g (ix2 k j) := by
  rw [packW_at wk0 wr0 wk1 wr1 k _ ⟨2 * g.val, by omega⟩ j (col_lo g j).1 (col_lo g j).2, wBlocks, turns_even]

theorem packW_hi (k : Fin 256) (g : Fin 4) (j : Fin 64) :
    packW wk0 wr0 wk1 wr1 (ix2 k (pc g (hi j))) = blkUp wk1 wr1 g (ix2 k j) := by
  rw [packW_at wk0 wr0 wk1 wr1 k _ ⟨2 * g.val + 1, by omega⟩ j (col_hi g j).1 (col_hi g j).2, wBlocks, turns_odd]

theorem packB_lo (g : Fin 4) (j : Fin 64) : packB b0 b1 (ix2 (0 : Fin 1) (pc g (lo j))) = blkB b0 g (ix1 j) := by
  rw [packB_at b0 b1 _ ⟨2 * g.val, by omega⟩ j (col_lo g j).1 (col_lo g j).2, bBlocks, turns_even]

theorem packB_hi (g : Fin 4) (j : Fin 64) : packB b0 b1 (ix2 (0 : Fin 1) (pc g (hi j))) = blkB b1 g (ix1 j) := by
  rw [packB_at b0 b1 _ ⟨2 * g.val + 1, by omega⟩ j (col_hi g j).1 (col_hi g j).2, bBlocks, turns_odd]

/-- **What @main packs is the two layers' weights, packed.** -/
theorem packed : Packed (parOf wk0 wr0 b0 wk1 wr1 b1) (mat (packW wk0 wr0 wk1 wr1)) (row (packB b0 b1) 0) where
  in_h g j k := (packW_lo wk0 wr0 wk1 wr1 _ g j).trans (blkIn_h wk0 wr0 g j k)
  in_z g j k := (packW_lo wk0 wr0 wk1 wr1 _ g j).trans (blkIn_z wk0 wr0 g j k)
  in_x g j k := (packW_lo wk0 wr0 wk1 wr1 _ g j).trans (blkIn_x wk0 wr0 g j k)
  in_p g j k := (packW_lo wk0 wr0 wk1 wr1 _ g j).trans (blkIn_p wk0 wr0 g j k)
  in_b g j := (packB_lo b0 b1 g j).trans (blkB_at b0 g j)
  up_x g j k := (packW_hi wk0 wr0 wk1 wr1 _ g j).trans (blkUp_x wk1 wr1 g j k)
  up_h g j k := (packW_hi wk0 wr0 wk1 wr1 _ g j).trans (blkUp_h wk1 wr1 g j k)
  up_z g j k := (packW_hi wk0 wr0 wk1 wr1 _ g j).trans (blkUp_z wk1 wr1 g j k)
  up_b g j := (packB_hi b0 b1 g j).trans (blkB_at b1 g j)

end All

end Cert.Proof

end
-- ==== Proof.Carry.lean ====
/-
  WHAT THE RECURRENT KERNEL'S LOOP CARRIES, over the extended reals: before trip `k` every row holds the first layer's state
  after `k + 1` inputs beside the second layer's after `k` (`carried`), so what the kernel stores is the dense head of the
  second layer's h after all 80 inputs (`body_value`).
-/
module

public import proofs.«01_k».proof.Proof.Cells

@[expose] public section

set_option maxRecDepth 8192

noncomputable section

namespace Cert.Proof

open Cert.KernelIdeal Cert.KernelIdeal.Gen
open Idealize.ShloMosaic hiding ix1 ix2 ix3
open Idealize.ShloMosaic.ValueIdx

/-- Input `t` of batch row `r`, from the time-major gathered rows (the last input again past the end). -/
def inp (xs : FVec Ideal S10240x128 .f32) (r : Fin 128) (t : ℕ) : Fin 100 → EReal :=
  fun k => xs (ix2 ⟨128 * min t 79 + r.val, by omega⟩ ⟨k.val, by omega⟩)

section

variable (P : Par) (xs : FVec Ideal S10240x128 .f32) (W : FVec Ideal S256x512 .f32) (b : FVec Ideal S1x512 .f32)

theorem over_lo (A B : FVec Ideal S64x128 .f32) (i : Fin 64) : overRow A B (lo i) = row A i := dif_pos i.isLt
theorem over_hi (A B : FVec Ideal S64x128 .f32) (i : Fin 64) : overRow A B (hi i) = row B i :=
  (dif_neg (by show ¬64 + i.val < 64; omega)).trans (congrArg (row B) (Fin.ext (by show 64 + i.val - 64 = i.val; omega)))

/-- What a carry holds before trip `k`. -/
structure Holds (a : Carry Ideal) (k : ℕ) : Prop where
  ha : ∀ r : Fin 64, row a.1 r = packedH P (inp xs (lo r)) k
  ca : ∀ r : Fin 64, row a.2.1 r = packedC P (inp xs (lo r)) k
  hb : ∀ r : Fin 64, row a.2.2.1 r = packedH P (inp xs (hi r)) k
  cb : ∀ r : Fin 64, row a.2.2.2.1 r = packedC P (inp xs (hi r)) k
  zb : ∀ r : Fin 64, row a.2.2.2.2 r
    = zP (mat W) (row b 0) (packedH P (inp xs (hi r)) k) (row (slab xs (128 * min (k + 1) 79 + 64) (by omega)) r)

/-- A slab's rows are inputs: the first half of the batch, and the second. -/
theorem slab_lo (t : ℕ) (h : 128 * min t 79 + 64 ≤ 10240) (r : Fin 64) (i : Fin 100) :
    row (slab xs (128 * min t 79) h) r ⟨i.val, by omega⟩ = inp xs (lo r) t i := rfl

theorem slab_hi (t : ℕ) (h : 128 * min t 79 + 64 + 64 ≤ 10240) (r : Fin 64) (i : Fin 100) :
    row (slab xs (128 * min t 79 + 64) h) r ⟨i.val, by omega⟩ = inp xs (hi r) t i :=
  congrArg (fun n => xs (ix2 n _)) (Fin.ext (Nat.add_assoc _ 64 r.val))

variable {P} {W} {b} (hp : Packed P (mat W) (row b 0))

include hp

/-- **The loop's start.** -/
theorem carried_zero : Holds P xs W b (initV xs W b) 0 := by
  have hw : ∀ (k : Fin 128) (q : Fin 512),
      (fun p => W (ix2 ⟨128 + (p 0).val, by have : (p 0).val < 128 := (p 0).isLt; omega⟩ (p 1)) : FVec Ideal S128x512 .f32) (ix2 k q)
        = mat W (rx k) q := fun _ _ => rfl
  have hx : ∀ (r : Fin 128) (i : Fin 100),
      row (fun p => xs (ix2 ⟨(p 0).val, by have : (p 0).val < 128 := (p 0).isLt; omega⟩ (p 1)) : FVec Ideal S128x128 .f32) r ⟨i.val, by omega⟩
        = inp xs r 0 i := fun r i =>
    congrArg (fun n => xs (ix2 n _)) (Fin.ext (by show r.val = 128 * min 0 79 + r.val; simp))
  generalize hX : (fun p => xs (ix2 ⟨(p 0).val, by have : (p 0).val < 128 := (p 0).isLt; omega⟩ (p 1)) : FVec Ideal S128x128 .f32) = X at hx
  generalize hV : (fun p => W (ix2 ⟨128 + (p 0).val, by have : (p 0).val < 128 := (p 0).isLt; omega⟩ (p 1)) : FVec Ideal S128x512 .f32) = V at hw
  have hh : ∀ r : Fin 128, row (k1_pay15 (F := Ideal) X V b) r = packedH P (inp xs r) 0 := fun r =>
    ext_halves (fun j => (init_h_lo X V b (mat W) hw r j).trans (packedH_zero hp _ _ (hx r) j))
      fun j => (init_h_hi X V b r j).trans (packedH_zero_hi P _ j).symm
  have hc : ∀ r : Fin 128, row (k1_pay14 (F := Ideal) X V b) r = packedC P (inp xs r) 0 := fun r =>
    ext_halves (fun j => (init_c_lo X V b (mat W) hw r j).trans (packedC_zero hp _ _ (hx r) j))
      fun j => (init_c_hi X V b r j).trans (packedC_zero_hi P _ j).symm
  have e : initV xs W b = (k1_pay16 (F := Ideal) X V b, k1_pay17 (F := Ideal) X V b, k1_pay18 (F := Ideal) X V b, k1_pay19 (F := Ideal) X V b,
      k1_pay1 (k1_pay18 (F := Ideal) X V b) (slab xs 192 (by omega)) W b) := by subst hX hV; rfl
  have up : ∀ (A : FVec Ideal S128x128 .f32) (h : S128x128.Slices ![0, 0] S64x128) (r : Fin 64),
      row (extractStridedSlice S64x128 ![0, 0] A h) r = row A (lo r) := fun A h r =>
    funext fun p => slice2_axis0_apply 0 A h r p (lo r) (Nat.zero_add _).symm
  have down : ∀ (A : FVec Ideal S128x128 .f32) (h : S128x128.Slices ![64, 0] S64x128) (r : Fin 64),
      row (extractStridedSlice S64x128 ![64, 0] A h) r = row A (hi r) := fun A h r =>
    funext fun p => slice2_axis0_apply 64 A h r p (hi r) rfl
  have hb : ∀ r : Fin 64, row (k1_pay18 (F := Ideal) X V b) r = packedH P (inp xs (hi r)) 0 := fun r => (down _ slices_S128x128_o64_0_S64x128 r).trans (hh (hi r))
  rw [e]
  exact ⟨fun r => (up _ slices_S128x128_o0_0_S64x128 r).trans (hh (lo r)), fun r => (up _ slices_S128x128_o0_0_S64x128 r).trans (hc (lo r)), hb,
    fun r => (down _ slices_S128x128_o64_0_S64x128 r).trans (hc (hi r)), fun r => (gates_row _ _ W b r).trans (congrArg (zP _ _ · _) (hb r))⟩

/-- **One trip.** -/
theorem carried_succ (k : ℕ) (a : Carry Ideal) (h : Holds P xs W b a k) : Holds P xs W b (tripV xs W b k a) (k + 1) := by
  have hb : ∀ r : Fin 64, row (k1_pay6 a.2.2.2.1 a.2.2.2.2) r = packedH P (inp xs (hi r)) (k + 1) := fun r => by
    rw [show row (k1_pay6 a.2.2.2.1 a.2.2.2.2) r = hP (row a.2.2.2.2 r) (row a.2.2.2.1 r) from funext fun p => newH_at _ _ r p,
      h.zb, h.cb]
    exact packedH_succ hp _ k _ (slab_hi xs (k + 1) _ r)
  refine ⟨fun r => ?_, fun r => ?_, hb, fun r => ?_, fun r => (gates_row _ _ W b r).trans (congrArg (zP _ _ · _) (hb r))⟩
  · show row (k1_pay10 a.1 a.2.1 (slab xs (128 * min (k + 1) 79) (by omega)) W b) r = _
    rw [newH_same, show ∀ Z, row (k1_pay6 a.2.1 Z) r = hP (row Z r) (row a.2.1 r) from fun Z => funext fun p => newH_at _ _ r p,
      gates_row, h.ha, h.ca]
    exact packedH_succ hp _ k _ (slab_lo xs (k + 1) _ r)
  · show row (k1_pay9 a.1 a.2.1 (slab xs (128 * min (k + 1) 79) (by omega)) W b) r = _
    rw [newC_same, show ∀ Z, row (k1_pay5 a.2.1 Z) r = cP (row Z r) (row a.2.1 r) from fun Z => funext fun p => newC_at _ _ r p,
      gates_row, h.ha, h.ca]
    exact packedC_succ hp _ k _ (slab_lo xs (k + 1) _ r)
  · show row (k1_pay5 a.2.2.2.1 a.2.2.2.2) r = _
    rw [show row (k1_pay5 a.2.2.2.1 a.2.2.2.2) r = cP (row a.2.2.2.2 r) (row a.2.2.2.1 r) from funext fun p => newC_at _ _ r p,
      h.zb, h.cb]
    exact packedC_succ hp _ k _ (slab_hi xs (k + 1) _ r)

theorem carried : ∀ k : ℕ, Holds P xs W b (tripsV xs W b k) k
  | 0 => carried_zero xs hp
  | k + 1 => carried_succ xs hp k _ (carried k)

/-- **What the recurrent kernel stores.** -/
theorem body_value (wd1 : FVec Ideal S64x64 .f32) (bd1 : FVec Ideal S1x64 .f32) (wd2 : FVec Ideal S64x1 .f32)
    (bd2 : FVec Ideal S1x1 .f32) (r : Fin 128) :
    bodyV xs W b wd1 bd1 wd2 bd2 (ix2 r (0 : Fin 1))
      = head (second P (inp xs r) 80).1 (mat wd1) (row bd1 0) (fun j => wd2 (ix2 j (0 : Fin 1))) (bd2 (ix2 (0 : Fin 1) (0 : Fin 1))) := by
  unfold bodyV
  rw [stored_at]
  refine congrArg (head · _ _ _ _) (funext fun j => ?_)
  have h := carried xs hp 80
  rcases lo_or_hi r with ⟨i, rfl⟩ | ⟨i, rfl⟩
  · rw [over_lo, h.ha]
    exact join_hi _ _ j
  · rw [over_hi, h.hb]
    exact join_hi _ _ j

end

end Cert.Proof

end
-- ==== Proof.Rows.lean ====
/-
  WHAT THE RECURRENT KERNEL READS: the gathered rows hold, at input `t` of batch row `r`, the embedding's row that index
  `(r, t)` names, beside 28 columns of padding that `inp` leaves out (`rows_at`).
-/
module

public import proofs.«01_k».proof.Proof.Carry
public import proofs.«01_k».proof.Proof.HostOps

@[expose] public section

set_option maxRecDepth 8192

noncomputable section

namespace Cert.Proof

open Cert.KernelIdeal Cert.KernelIdeal.Gen
open Idealize.ShloMosaic hiding ix1 ix2 ix3
open Idealize.ShloMosaic.ValueIdx

/-- The padded table's first 100 columns are the table. -/
theorem padTable_at (e : FVec Ideal S10000x100 .f32) (i : Fin 10000) (k : Fin 100) :
    padTable e (ix2 i ⟨k.val, by omega⟩) = e (ix2 i k) := by
  unfold padTable
  refine concatenate_pair_apply_left (t := S10000x128) (s₁ := S10000x100) (s₂ := S10000x28) 1 _ _ _
    (ix2 i ⟨k.val, by omega⟩) rfl (ix2 i k) fun a => ?_
  match a with
  | ⟨0, _⟩ => rfl
  | ⟨1, _⟩ => rfl

/-- Word `128 t + r` of the list is index `(r, t)`. -/
theorem timeMajor_at (x : IVec S128x80 32) (r : Fin 128) (t : Fin 80) :
    timeMajor x (ix1 ⟨128 * t.val + r.val, by omega⟩) = x (ix2 r t) := by
  unfold timeMajor
  refine (shapeCast_apply _ _ _ (ix2 t r) ?_).trans (transpose_ix2_apply x _ t r)
  rw [Shape.rowMajor_val_one, Shape.rowMajor_val_two]
  show t.val * 128 + r.val = 128 * t.val + r.val
  omega

/-- **The gathered rows, read at an input.** -/
theorem rows_at (e : FVec Ideal S10000x100 .f32) (x : IVec S128x80 32) (r : Fin 128) (t : ℕ) :
    inp (gath (padTable e) (timeMajor x)) r t = fun k => e (ix2 (rowOf (x (ix2 r ⟨min t 79, by omega⟩))) k) := by
  funext k
  unfold inp gath
  refine Eq.trans ?_ (padTable_at e _ k)
  refine congrArg (fun w => padTable e (ix2 (rowOf w) ⟨k.val, by omega⟩)) ?_
  exact timeMajor_at x r ⟨min t 79, by omega⟩

end Cert.Proof

end
-- ==== Proof.RefCell.lean ====
/-
  THE REFERENCE, row by row, over the extended reals: one trip of its loop is one step of both layers (`trip_step`), 80
  trips are 80 steps (`after_trips`), and its result is the dense head of the second layer's h (`out_value`).
-/
module

public import proofs.«01_k».proof.Proof.Gen.ReferenceIdeal.Run
public import proofs.«01_k».proof.Proof.Model
public import Idealize.ShloMosaic.Lib.ValueLayout
public import Idealize.ShloMosaic.Lib.KernelVsHost
public import Idealize.ShloMosaic.Lib.StackMember
public import Idealize.ShloMosaic.Lib.WordCmp
public import Idealize.ShloMosaic.Lib.Pipeline.Value

@[expose] public section

set_option maxRecDepth 8192

noncomputable section

namespace Cert.Proof.Ref

open Cert.ReferenceIdeal Cert.ReferenceIdeal.Gen Cert.ReferenceIdeal.Value
open Idealize.ShloMosaic hiding ix1 ix2 ix3
open Idealize.ShloMosaic.ValueIdx Idealize.ShloMosaic.TcCoe
open Idealize.ShloMosaic.StableHlo

/-! ## The pieces of a step -/

/-- A bias, one row for all. -/
theorem bias_at {m n : ℕ} (hn : n ≠ 1) (h1 : (⟨2, ![1, n]⟩ : Shape).BroadcastsInDim ⟨2, ![m, n]⟩ ![0, 1])
    (h2 : (⟨1, ![n]⟩ : Shape).BroadcastsInDim ⟨2, ![1, n]⟩ ![1]) (b : FVec Ideal ⟨1, ![n]⟩ .f32) (r : Fin m) (q : Fin n) :
    broadcastInDim ⟨2, ![m, n]⟩ ![0, 1] h1 (broadcastInDim ⟨2, ![1, n]⟩ ![1] h2 b) (ix2 r q) = b (ix1 q) := by
  rw [broadcastInDim_oneRow_apply]
  exact broadcastInDim_apply ![1] h2 b (ix2 (0 : Fin 1) q) (ix1 q) fun a => by
    match a with
    | ⟨0, _⟩ =>
      show q.val = if n = 1 then 0 else q.val
      exact (if_neg hn).symm

/-- The gates before their functions. -/
theorem gates_text (n : ℕ) (X : FVec Ideal ⟨2, ![128, n]⟩ .f32) (H : FVec Ideal ⟨2, ![128, 64]⟩ .f32)
    (wk : FVec Ideal ⟨2, ![n, 256]⟩ .f32) (wr : FVec Ideal ⟨2, ![64, 256]⟩ .f32) (b : FVec Ideal ⟨1, ![256]⟩ .f32)
    (h1 : (⟨2, ![1, 256]⟩ : Shape).BroadcastsInDim ⟨2, ![128, 256]⟩ ![0, 1])
    (h2 : (⟨1, ![256]⟩ : Shape).BroadcastsInDim ⟨2, ![1, 256]⟩ ![1]) (r : Fin 128) (q : Fin 256) :
    addf (addf (Host.dotGeneral (DotDims.plain 128 n 256) none X wk) (Host.dotGeneral (DotDims.plain 128 64 256) none H wr))
        (broadcastInDim ⟨2, ![128, 256]⟩ ![0, 1] h1 (broadcastInDim ⟨2, ![1, 256]⟩ ![1] h2 b)) (ix2 r q)
      = gatesV (row X r) (row H r) (mat wk) (mat wr) (fun q => b (ix1 q)) q := by
  rw [addf_apply, addf_apply, StackMember.dotGeneral_plain_apply, StackMember.dotGeneral_plain_apply, bias_at (by decide)]
  rfl

/-- The logistic function as the reference spells it. -/
theorem squash_text {t : Shape} (h : S_.BroadcastsInDim t ![]) (x : FVec Ideal t .f32) (i : t.Idx) :
    Host.divf (broadcastInDim t ![] h (constant S_ .f32 0x3F800000#32 : FVec Ideal S_ .f32))
      (addf (broadcastInDim t ![] h (constant S_ .f32 0x3F800000#32 : FVec Ideal S_ .f32)) (Host.exp (Host.negf x))) i
      = Ideal.logistic (x i) := by
  have e : broadcastInDim t ![] h (constant S_ .f32 0x3F800000#32 : FVec Ideal S_ .f32) i = 1 :=
    (broadcastInDim_scalar_apply h _ i).trans Ideal.ofBits_one_f32
  show Ideal.div (broadcastInDim t ![] h (constant S_ .f32 0x3F800000#32 : FVec Ideal S_ .f32) i)
    (broadcastInDim t ![] h (constant S_ .f32 0x3F800000#32 : FVec Ideal S_ .f32) i + Ideal.exp (-(x i))) = _
  rw [e]
  rfl

/-- A gate's columns. -/
theorem cols_text (Z : FVec Ideal S128x256 .f32) (g : Fin 4) (o : ℕ) (ho : o = 64 * g.val) (h : S128x256.Slices ![0, o] S128x64)
    (r : Fin 128) (j : Fin 64) : extractStridedSlice S128x64 ![0, o] Z h (ix2 r j) = Z (ix2 r (gc g j)) :=
  slice2_axis1_apply o Z h r j (gc g j) (by subst ho; rfl)

/-- A gate through the logistic function. -/
abbrev sg (Z : FVec Ideal S128x256 .f32) (o : ℕ) (h : S128x256.Slices ![0, o] S128x64) : FVec Ideal S128x64 .f32 :=
  Host.divf (broadcastInDim S128x64 ![] bcast_S_S128x64 (constant S_ .f32 0x3F800000#32 : FVec Ideal S_ .f32))
    (addf (broadcastInDim S128x64 ![] bcast_S_S128x64 (constant S_ .f32 0x3F800000#32 : FVec Ideal S_ .f32))
      (Host.exp (Host.negf (extractStridedSlice S128x64 ![0, o] Z h))))

theorem sg_at (Z : FVec Ideal S128x256 .f32) (g : Fin 4) (o : ℕ) (ho : o = 64 * g.val) (h : S128x256.Slices ![0, o] S128x64)
    (r : Fin 128) (j : Fin 64) : sg Z o h (ix2 r j) = Ideal.logistic (Z (ix2 r (gc g j))) :=
  (squash_text _ _ _).trans (congrArg Ideal.logistic (cols_text Z g o ho h r j))

/-- The new c. -/
theorem c_text (Z : FVec Ideal S128x256 .f32) (C : FVec Ideal S128x64 .f32) (r : Fin 128) (j : Fin 64) :
    addf (mulf (sg Z 64 slices_S128x256_S128x64_0_64) C) (mulf (sg Z 0 slices_S128x256_S128x64_0_0)
      (Host.tanh (extractStridedSlice S128x64 ![0, 128] Z slices_S128x256_S128x64_0_128))) (ix2 r j)
      = cellC (row Z r) (row C r) j := by
  rw [addf_apply, mulf_apply, mulf_apply, sg_at Z 1 64 rfl, sg_at Z 0 0 rfl]
  exact congrArg (_ + _ * Ideal.tanh ·) (cols_text Z 2 128 rfl _ r j)

/-- The new h. -/
theorem h_text (Z : FVec Ideal S128x256 .f32) (C C' : FVec Ideal S128x64 .f32) (r : Fin 128) (j : Fin 64)
    (h : row C' r = cellC (row Z r) (row C r)) :
    mulf (sg Z 192 slices_S128x256_S128x64_0_192) (Host.tanh C') (ix2 r j) = cellH (row Z r) (row C r) j := by
  rw [mulf_apply, sg_at Z 3 192 rfl]
  exact congrArg (_ * Ideal.tanh ·) (congrFun h j)

/-- The input of trip `k`. -/
theorem input_text (X : FVec Ideal S80x128x100 .f32) (s : Fin 3 → ℤ) (k : ℕ) (hk : k < 80) (hs : ∀ a, s a = ((![k, 0, 0] : Fin 3 → ℕ) a : ℤ))
    (r : Fin 128) (i : Fin 100) :
    shapeCast S128x100 (Host.dynamicSlice S1x128x100 X s sliceFits_S80x128x100_S1x128x100) shapeCasts_S1x128x100_S128x100 (ix2 r i)
      = X (ix3 ⟨min k 79, by omega⟩ r i) := by
  have hf : S80x128x100.Slices ![k, 0, 0] S1x128x100 := ⟨rfl, fun a => by
    match a with
    | ⟨0, _⟩ => show k + 1 ≤ 80; omega
    | ⟨1, _⟩ => show 0 + 128 ≤ 128; omega
    | ⟨2, _⟩ => show 0 + 100 ≤ 100; omega⟩
  rw [WordCmp.dynamicSlice_eq_extract S1x128x100 X s _ ![k, 0, 0] hf hs, shapeCast_1ab_ab_apply]
  exact extractStridedSlice_apply _ _ _ _ _ fun a => by
    match a with
    | ⟨0, _⟩ => show min k 79 = k + 0; omega
    | ⟨1, _⟩ => exact (Nat.zero_add _).symm
    | ⟨2, _⟩ => exact (Nat.zero_add _).symm

theorem counter_word : ∀ k : Fin 80, (Scf.iv 0#32 1#32 k.val).toInt = (k.val : ℤ) := by decide +kernel

/-! ## The carried buffers -/

/-- The carried buffers as arrays. -/
abbrev xs (V : Valuation τ sig (Elt Ideal)) : FVec Ideal S80x128x100 .f32 := V (Proc.devRef .tc main_v6_0)
abbrev wk0 (V : Valuation τ sig (Elt Ideal)) : FVec Ideal S100x256 .f32 := V (Proc.devRef .tc main_v6_1)
abbrev wr0 (V : Valuation τ sig (Elt Ideal)) : FVec Ideal S64x256 .f32 := V (Proc.devRef .tc main_v6_2)
abbrev b0 (V : Valuation τ sig (Elt Ideal)) : FVec Ideal S256 .f32 := V (Proc.devRef .tc main_v6_3)
abbrev wk1 (V : Valuation τ sig (Elt Ideal)) : FVec Ideal S64x256 .f32 := V (Proc.devRef .tc main_v6_4)
abbrev wr1 (V : Valuation τ sig (Elt Ideal)) : FVec Ideal S64x256 .f32 := V (Proc.devRef .tc main_v6_5)
abbrev b1 (V : Valuation τ sig (Elt Ideal)) : FVec Ideal S256 .f32 := V (Proc.devRef .tc main_v6_6)
abbrev h0 (V : Valuation τ sig (Elt Ideal)) : FVec Ideal S128x64 .f32 := V (Proc.devRef .tc main_v6_8)
abbrev c0 (V : Valuation τ sig (Elt Ideal)) : FVec Ideal S128x64 .f32 := V (Proc.devRef .tc main_v6_9)
abbrev h1 (V : Valuation τ sig (Elt Ideal)) : FVec Ideal S128x64 .f32 := V (Proc.devRef .tc main_v6_10)
abbrev c1 (V : Valuation τ sig (Elt Ideal)) : FVec Ideal S128x64 .f32 := V (Proc.devRef .tc main_v6_11)
/-- What a trip makes on the way. -/
abbrev z0' (V : Valuation τ sig (Elt Ideal)) : FVec Ideal S128x256 .f32 := res_main_while0b_v29 V
abbrev c0' (V : Valuation τ sig (Elt Ideal)) : FVec Ideal S128x64 .f32 := res_main_while0b_v55 V
abbrev h0' (V : Valuation τ sig (Elt Ideal)) : FVec Ideal S128x64 .f32 := res_main_while0b_v57 V
abbrev z1' (V : Valuation τ sig (Elt Ideal)) : FVec Ideal S128x256 .f32 := res_main_while0b_v63 V
abbrev c1' (V : Valuation τ sig (Elt Ideal)) : FVec Ideal S128x64 .f32 := res_main_while0b_v89 V
abbrev h1' (V : Valuation τ sig (Elt Ideal)) : FVec Ideal S128x64 .f32 := step_main_v6_10 V

/-- Input `t` of batch row `r` (the last input again past the end). -/
def inp (X : FVec Ideal S80x128x100 .f32) (r : Fin 128) (t : ℕ) : Fin 100 → EReal := fun k => X (ix3 ⟨min t 79, by omega⟩ r k)

/-- Before trip `k` of a loop whose weights are `P` and inputs `X`. -/
structure At (P : Par) (X : FVec Ideal S80x128x100 .f32) (V : Valuation τ sig (Elt Ideal)) (k : ℕ) : Prop where
  x : xs V = X
  par : parOf (wk0 V) (wr0 V) (b0 V) (wk1 V) (wr1 V) (b1 V) = P
  ctr : V (Proc.devRef .tc main_v6_7) = fun _ => Scf.iv 0#32 1#32 k
  h0 : ∀ r, row (h0 V) r = (first P (inp X r) k).1
  c0 : ∀ r, row (c0 V) r = (first P (inp X r) k).2
  h1 : ∀ r, row (h1 V) r = (second P (inp X r) k).1
  c1 : ∀ r, row (c1 V) r = (second P (inp X r) k).2

section

variable {P : Par} {X : FVec Ideal S80x128x100 .f32} {V : Valuation τ sig (Elt Ideal)} {k : ℕ} (h : At P X V k) (hk : k < 80)

include h hk

theorem z0_row (r : Fin 128) : row (z0' V) r = gatesV (inp X r k) (first P (inp X r) k).1 P.wk0 P.wr0 P.b0 := by
  obtain ⟨hx, rfl, hc, e0, -, -, -⟩ := h
  funext q
  refine (gates_text 100 _ _ _ _ _ _ _ r q).trans ?_
  have hin : row (shapeCast S128x100 (Host.dynamicSlice S1x128x100 (xs V) (fun k => (((![V (Proc.devRef .tc main_v6_7), constantI S_ 32 0#32, constantI S_ 32 0#32] : Fin 3 → (⟨S_, .i32⟩ : BufTy).Contents (Elt Ideal))) k (Shape.Idx.first h_S_)).toInt) sliceFits_S80x128x100_S1x128x100) shapeCasts_S1x128x100_S128x100) r = inp X r k := by
    funext i
    rw [← hx]
    refine input_text (xs V) _ k hk (fun a => ?_) r i
    match a with
    | ⟨0, _⟩ =>
      show ((V (Proc.devRef .tc main_v6_7) : IVec S_ 32) (Shape.Idx.first h_S_)).toInt = (k : ℤ)
      rw [hc]
      exact counter_word ⟨k, hk⟩
    | ⟨1, _⟩ => rfl
    | ⟨2, _⟩ => rfl
  exact congrFun (congrArg₂ (fun a b => gatesV a b _ _ _) hin (e0 r)) q

theorem c0_row (r : Fin 128) : row (c0' V) r = (first P (inp X r) (k + 1)).2 := by
  have e : row (c0' V) r = cellC (row (z0' V) r) (row (Ref.c0 V) r) := funext fun j => c_text (z0' V) (Ref.c0 V) r j
  rw [e, z0_row h hk, h.c0]; rfl

theorem h0_row (r : Fin 128) : row (h0' V) r = (first P (inp X r) (k + 1)).1 := by
  have e : row (h0' V) r = cellH (row (z0' V) r) (row (Ref.c0 V) r) := funext fun j =>
    h_text (z0' V) (Ref.c0 V) (c0' V) r j (funext fun j => c_text (z0' V) (Ref.c0 V) r j)
  rw [e, z0_row h hk, h.c0]; rfl

theorem z1_row (r : Fin 128) : row (z1' V) r = gatesV (first P (inp X r) (k + 1)).1 (second P (inp X r) k).1 P.wk1 P.wr1 P.b1 := by
  have e0 := h0_row h hk r
  obtain ⟨hx, rfl, hc, -, -, e1, -⟩ := h
  funext q
  refine (gates_text 64 _ _ _ _ _ _ _ r q).trans ?_
  exact congrFun (congrArg₂ (fun a b => gatesV a b _ _ _) e0 (e1 r)) q

theorem c1_row (r : Fin 128) : row (c1' V) r = (second P (inp X r) (k + 1)).2 := by
  have e : row (c1' V) r = cellC (row (z1' V) r) (row (Ref.c1 V) r) := funext fun j => c_text (z1' V) (Ref.c1 V) r j
  rw [e, z1_row h hk, h.c1]; rfl

theorem h1_row (r : Fin 128) : row (h1' V) r = (second P (inp X r) (k + 1)).1 := by
  have e : row (h1' V) r = cellH (row (z1' V) r) (row (Ref.c1 V) r) := funext fun j =>
    h_text (z1' V) (Ref.c1 V) (c1' V) r j (funext fun j => c_text (z1' V) (Ref.c1 V) r j)
  rw [e, z1_row h hk, h.c1]; rfl

/-- **One trip is one step.** -/
theorem trip_step : At P X (STEP V) (k + 1) where
  x := (STEP_main_v6_0 V).trans h.x
  par := by
    have e1 : wk0 (STEP V) = wk0 V := STEP_main_v6_1 V
    have e2 : wr0 (STEP V) = wr0 V := STEP_main_v6_2 V
    have e3 : b0 (STEP V) = b0 V := STEP_main_v6_3 V
    have e4 : wk1 (STEP V) = wk1 V := STEP_main_v6_4 V
    have e5 : wr1 (STEP V) = wr1 V := STEP_main_v6_5 V
    have e6 : b1 (STEP V) = b1 V := STEP_main_v6_6 V
    rw [e1, e2, e3, e4, e5, e6]
    exact h.par
  ctr := by
    rw [STEP_main_v6_7]
    show addi (V (Proc.devRef .tc main_v6_7)) (constantI S_ 32 1#32) = _
    rw [h.ctr, Scf.iv_succ]
    rfl
  h0 r := (congrArg (row · r) (STEP_main_v6_8 V)).trans (h0_row h hk r)
  c0 r := (congrArg (row · r) (STEP_main_v6_9 V)).trans (c0_row h hk r)
  h1 r := (congrArg (row · r) (STEP_main_v6_10 V)).trans (h1_row h hk r)
  c1 r := (congrArg (row · r) (STEP_main_v6_11 V)).trans (c1_row h hk r)

end

/-- **The loop.** -/
theorem after_trips {P : Par} {X : FVec Ideal S80x128x100 .f32} {V : Valuation τ sig (Elt Ideal)} (h : At P X V 0) :
    ∀ k, k ≤ 80 → At P X (STEP^[k] V) k
  | 0, _ => h
  | k + 1, hk => by
    rw [Function.iterate_succ_apply']
    exact trip_step (after_trips h k (by omega)) (by omega)

/-- **The result** is the dense head of the second layer's h. -/
theorem out_value (V : Valuation τ sig (Elt Ideal)) (wd1 : FVec Ideal S64x64 .f32) (bd1 : FVec Ideal S64 .f32) (wd2 : FVec Ideal S64x1 .f32)
    (bd2 : FVec Ideal S1 .f32) (e1 : V (Proc.devRef .tc main_arg8) = wd1) (e2 : V (Proc.devRef .tc main_arg9) = bd1)
    (e3 : V (Proc.devRef .tc main_arg10) = wd2) (e4 : V (Proc.devRef .tc main_arg11) = bd2) (r : Fin 128) :
    (out_main_v22 V : FVec Ideal S128x1 .f32) (ix2 r (0 : Fin 1))
      = head (row (h1 V) r) (mat wd1) (fun j => bd1 (ix1 j)) (fun j => wd2 (ix2 j (0 : Fin 1))) (bd2 (ix1 (0 : Fin 1))) := by
  subst e1 e2 e3 e4
  refine (squash_text _ _ _).trans (congrArg Ideal.logistic ?_)
  rw [addf_apply]
  refine congrArg₂ (· + ·) ?_ ?_
  · refine (StackMember.dotGeneral_plain_apply (m := 128) (k := 64) (n := 1) none _ _ r 0).trans ?_
    refine Finset.sum_congr rfl fun j _ => congrArg (· * _) ?_
    rw [maximumf_apply, addf_apply, bias_at (by decide)]
    refine congrArg₂ max (congrArg (· + _) ?_) ((broadcastInDim_scalar_apply _ _ _).trans zero_word)
    exact StackMember.dotGeneral_plain_apply (m := 128) (k := 64) (n := 64) none _ _ r j
  · rw [broadcastInDim_oneRow_apply]
    exact broadcastInDim_apply ![1] _ _ (ix2 (0 : Fin 1) (0 : Fin 1)) (ix1 (0 : Fin 1)) fun a => by
      match a with
      | ⟨0, _⟩ => exact (if_pos rfl).symm

end Cert.Proof.Ref

end
-- ==== Proof.RefEntry.lean ====
/-
  THE REFERENCE BEFORE ITS LOOP: the looked-up embeddings, time-major, are the embedding table's rows that the indices name
  (`looked_at`), and the loop starts from them, the weights and zero states (`entry`).
-/
module

public import proofs.«01_k».proof.Proof.RefCell
public import Idealize.ShloMosaic.Lib.ReduceAll

@[expose] public section

set_option maxRecDepth 8192

noncomputable section

namespace Cert.Proof.Ref

open Cert.ReferenceIdeal Cert.ReferenceIdeal.Gen Cert.ReferenceIdeal.Value
open Idealize.ShloMosaic hiding ix1 ix2 ix3
open Idealize.ShloMosaic.ValueIdx Idealize.ShloMosaic.TcCoe Idealize.ShloMosaic.Tactic
open Idealize.ShloMosaic.StableHlo

/-! ## The lookup -/

/-- The indices, a negative one counted from the end. -/
def wrapped (ix : IVec S128x80 32) : IVec S128x80 32 :=
  select (cmpi .slt ix (broadcastInDim S128x80 ![] bcast_S_S128x80 (constantI S_ 32 0#32)))
    (addi ix (broadcastInDim S128x80 ![] bcast_S_S128x80 (constantI S_ 32 10000#32))) ix

/-- The same, each as a vector of one. -/
def startIx (ix : IVec S128x80 32) : IVec S128x80x1 32 := broadcastInDim S128x80x1 ![0, 1] bcast_S128x80_S128x80x1_0_1 (wrapped ix)

/-- Which of them name a row. -/
def named (ix : IVec S128x80 32) : IVec S128x80x1 1 :=
  andi (cmpi .sge (startIx ix) (broadcastInDim S128x80x1 ![] bcast_S_S128x80x1 (constantI S_ 32 0#32)))
    (cmpi .sle (startIx ix) (broadcastInDim S128x80x1 ![0, 1, 2] bcast_S1x1x1_S128x80x1_0_1_2
      (broadcastInDim S1x1x1 ![2] bcast_S1_S1x1x1_2 (constantI S1 32 9999#32))))

/-- The looked-up rows. -/
def looked (e : FVec Ideal S10000x100 .f32) (ix : IVec S128x80 32) : FVec Ideal S128x80x100 .f32 :=
  select (broadcastInDim S128x80x100 ![0, 1] bcast_S128x80_S128x80x100_0_1
      (Host.reduce IntOp.andi (named ix) (constantI S_ 1 1#1) reducesTo_S128x80x1_S128x80_d2 h_S_))
    (Host.gather gather_S10000x100_S128x80x1_S128x80x100_2_0_n_n_0_2_1100 e (startIx ix))
    (broadcastInDim S128x80x100 ![] bcast_S_S128x80x100 (constant S_ .f32 0x7FC00000#32))

variable (m : (ℓ : Loc nD τ sig) → Buf (Elt Ideal) ℓ) (c : Dev nD)

theorem read_xs (V : Valuation τ sig (Elt Ideal)) : after hostOps0_1 V (no_index (Proc.devRef .tc main_v6_0))
    = transpose S80x128x100 [1, 0, 2] (V (Proc.devRef .tc main_v0)) transposes_S128x80x100_S80x128x100_1_0_2 := by
  unfold hostOps0_1
  after_reads_simp
  rfl

set_option maxHeartbeats 2000000 in
theorem read_looked (V : Valuation τ sig (Elt Ideal)) : after hostOps0 V (no_index (Proc.devRef .tc main_v0))
    = looked (V (Proc.devRef .tc main_arg1)) (V (Proc.devRef .tc main_arg0)) := by
  unfold hostOps0
  after_reads_simp
  simp only [TRef.ofBuf_toBuf]
  have e0 : ∀ h1 h2 h3 v, (TRef.of (T := ⟨S128x80, .i32⟩) main_arg0 h1 h2 h3).ofBuf (Val := Elt Ideal) v = v := fun _ _ _ _ => rfl
  have e1 : ∀ h1 h2 h3 v, (TRef.of (T := ⟨S10000x100, .f32⟩) main_arg1 h1 h2 h3).ofBuf (Val := Elt Ideal) v = v := fun _ _ _ _ => rfl
  simp only [e0, e1, looked, named, startIx, wrapped]
  exact cast_eq _ _

/-- The row that an index names. -/
def rowNo (w : BitVec 32) : Fin 10000 := ⟨w.toNat % 10000, Nat.mod_lt _ (by decide)⟩

variable {ix : IVec S128x80 32} (hix : ∀ j, (ix j).toNat < 10000)

include hix

theorem wrapped_eq : wrapped ix = ix := by
  funext j
  have hlt : (ix j).toNat < 10000 := hix j
  unfold wrapped
  rw [select_apply]
  have hc : cmpi .slt ix (broadcastInDim S128x80 ![] bcast_S_S128x80 (constantI S_ 32 0#32)) j = 0#1 := by
    rw [WordCmp.cmpi_at, broadcastInDim_scalar_apply, WordCmp.constantI_at, WordCmp.cmpi_slt_zero, WordCmp.ofBool_decide_eq_zero_iff]
    omega
  rw [hc, select_zero]

theorem startIx_at (b : Fin 128) (t : Fin 80) (z : Fin 1) : startIx ix (ix3 b t z) = ix (ix2 b t) := by
  unfold startIx
  rw [wrapped_eq hix]
  exact broadcastInDim_apply _ _ _ _ _ fun a => by match a with | ⟨0, _⟩ => rfl | ⟨1, _⟩ => rfl

theorem named_at (j : S128x80x1.Idx) : named ix j = 1#1 := by
  obtain ⟨b, t, z, rfl⟩ : ∃ b t z, j = ix3 b t z := ⟨j 0, j 1, j 2, by funext a; match a with | ⟨0, _⟩ => rfl | ⟨1, _⟩ => rfl | ⟨2, _⟩ => rfl⟩
  have hlt : (ix (ix2 b t)).toNat < 10000 := hix _
  have hi : (ix (ix2 b t)).toInt = ((ix (ix2 b t)).toNat : ℤ) := BitVec.toInt_eq_toNat_of_lt (by omega)
  unfold named
  show IntOp.andi (cmpi .sge (startIx ix) _ _) (cmpi .sle (startIx ix) _ _) = _
  have h1 : cmpi .sge (startIx ix) (broadcastInDim S128x80x1 ![] bcast_S_S128x80x1 (constantI S_ 32 0#32)) (ix3 b t z) = 1#1 := by
    rw [WordCmp.cmpi_at, broadcastInDim_scalar_apply, WordCmp.constantI_at, WordCmp.cmpi_sge_zero, startIx_at hix,
      WordCmp.ofBool_decide_eq_one_iff]
    omega
  have h2 : cmpi .sle (startIx ix) (broadcastInDim S128x80x1 ![0, 1, 2] bcast_S1x1x1_S128x80x1_0_1_2
      (broadcastInDim S1x1x1 ![2] bcast_S1_S1x1x1_2 (constantI S1 32 9999#32))) (ix3 b t z) = 1#1 := by
    rw [WordCmp.cmpi_at, startIx_at hix, WordCmp.cmpi_sle_eq, WordCmp.ofBool_decide_eq_one_iff, hi]
    refine le_trans (b := (9999 : ℤ)) (by omega) (le_of_eq ?_)
    show _ = (9999#32).toInt
    decide
  rw [h1, h2]; rfl

theorem gather_at (e : FVec Ideal S10000x100 .f32) (b : Fin 128) (t : Fin 80) (k : Fin 100) :
    Host.gather gather_S10000x100_S128x80x1_S128x80x100_2_0_n_n_0_2_1100 e (startIx ix) (ix3 b t k)
      = e (ix2 (rowNo (ix (ix2 b t))) k) := by
  have hlt : (ix (ix2 b t)).toNat < 10000 := hix _
  have hi : (ix (ix2 b t)).toInt = ((ix (ix2 b t)).toNat : ℤ) := BitVec.toInt_eq_toNat_of_lt (by omega)
  unfold Host.gather
  congr 1
  funext a
  refine Fin.ext ?_
  show GatherDims.start _ (ix3 b t k) (startIx ix) a + GatherDims.batchCoord _ (ix3 b t k) a + GatherDims.offCoord _ (ix3 b t k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ GatherDims.startIndexMap gather_S10000x100_S128x80x1_S128x80x100_2_0_n_n_0_2_1100 from List.mem_singleton.mpr rfl)).trans ?_
    have hsi : GatherDims.siIdx gather_S10000x100_S128x80x1_S128x80x100_2_0_n_n_0_2_1100 (ix3 b t k)
        ⟨List.idxOf (0 : Fin 2) [0], List.idxOf_lt_length_iff.2 (List.mem_singleton.mpr rfl)⟩ = ix3 b t 0 := by
      funext q
      refine Fin.ext ?_
      match q with
      | ⟨0, _⟩ => rfl
      | ⟨1, _⟩ => rfl
      | ⟨2, _⟩ => rfl
    refine (congrArg (fun q => min (startIx ix q).toInt.toNat (10000 - 1)) hsi).trans ?_
    rw [startIx_at hix, hi]
    show min (ix (ix2 b t)).toNat (10000 - 1) = (ix (ix2 b t)).toNat % 10000
    omega
  | ⟨1, _⟩ =>
    unfold GatherDims.start
    refine (congrArg (fun n : ℕ => n + _) (dif_neg (show ¬ (1 : Fin 2) ∈ GatherDims.startIndexMap gather_S10000x100_S128x80x1_S128x80x100_2_0_n_n_0_2_1100 from
      fun h => absurd (List.mem_singleton.mp h) (by decide)))).trans ?_
    exact Nat.zero_add _

/-- **The lookup, read at an entry.** -/
theorem looked_at (e : FVec Ideal S10000x100 .f32) (b : Fin 128) (t : Fin 80) (k : Fin 100) :
    looked e ix (ix3 b t k) = e (ix2 (rowNo (ix (ix2 b t))) k) := by
  unfold looked
  rw [select_apply]
  have hm : broadcastInDim S128x80x100 ![0, 1] bcast_S128x80_S128x80x100_0_1
      (Host.reduce IntOp.andi (named ix) (constantI S_ 1 1#1) reducesTo_S128x80x1_S128x80_d2 h_S_) (ix3 b t k) = 1#1 := by
    refine (broadcastInDim_apply _ _ _ _ (ix2 b t) fun a => by match a with | ⟨0, _⟩ => rfl | ⟨1, _⟩ => rfl).trans ?_
    rw [Host.reduce_eq_foldl]
    exact IntOp.foldl_andi_one _ _ _ rfl fun i _ => named_at hix i
  rw [hm, select_one, gather_at hix]

omit hix

/-! ## The loop's start -/

theorem read_w0 (V : Valuation τ sig (Elt Ideal)) : after hostOps0_1 V (no_index (Proc.devRef .tc main_v6_1)) = V (Proc.devRef .tc main_arg2) := by
  unfold hostOps0_1; after_reads_simp; rfl
theorem read_w1 (V : Valuation τ sig (Elt Ideal)) : after hostOps0_1 V (no_index (Proc.devRef .tc main_v6_2)) = V (Proc.devRef .tc main_arg3) := by
  unfold hostOps0_1; after_reads_simp; rfl
theorem read_w2 (V : Valuation τ sig (Elt Ideal)) : after hostOps0_1 V (no_index (Proc.devRef .tc main_v6_3)) = V (Proc.devRef .tc main_arg4) := by
  unfold hostOps0_1; after_reads_simp; rfl
theorem read_w3 (V : Valuation τ sig (Elt Ideal)) : after hostOps0_1 V (no_index (Proc.devRef .tc main_v6_4)) = V (Proc.devRef .tc main_arg5) := by
  unfold hostOps0_1; after_reads_simp; rfl
theorem read_w4 (V : Valuation τ sig (Elt Ideal)) : after hostOps0_1 V (no_index (Proc.devRef .tc main_v6_5)) = V (Proc.devRef .tc main_arg6) := by
  unfold hostOps0_1; after_reads_simp; rfl
theorem read_w5 (V : Valuation τ sig (Elt Ideal)) : after hostOps0_1 V (no_index (Proc.devRef .tc main_v6_6)) = V (Proc.devRef .tc main_arg7) := by
  unfold hostOps0_1; after_reads_simp; rfl

/-- A state of zeros. -/
abbrev zeroState : FVec Ideal S128x64 .f32 := broadcastInDim S128x64 ![] bcast_S_S128x64 (constant S_ .f32 0x00000000#32)

theorem read_s0 (V : Valuation τ sig (Elt Ideal)) : after hostOps0_1 V (no_index (Proc.devRef .tc main_v6_8)) = zeroState := by
  unfold hostOps0_1; after_reads_simp; rfl
theorem read_s1 (V : Valuation τ sig (Elt Ideal)) : after hostOps0_1 V (no_index (Proc.devRef .tc main_v6_9)) = zeroState := by
  unfold hostOps0_1; after_reads_simp; rfl
theorem read_s2 (V : Valuation τ sig (Elt Ideal)) : after hostOps0_1 V (no_index (Proc.devRef .tc main_v6_10)) = zeroState := by
  unfold hostOps0_1; after_reads_simp; rfl
theorem read_s3 (V : Valuation τ sig (Elt Ideal)) : after hostOps0_1 V (no_index (Proc.devRef .tc main_v6_11)) = zeroState := by
  unfold hostOps0_1; after_reads_simp; rfl

theorem zeroState_row (r : Fin 128) : row zeroState r = fun _ => (0 : EReal) := by
  funext j
  exact (broadcastInDim_scalar_apply _ _ _).trans zero_word

/-- The embeddings the loop reads, time-major. -/
def inputs (e : FVec Ideal S10000x100 .f32) (ix : IVec S128x80 32) : FVec Ideal S80x128x100 .f32 :=
  transpose S80x128x100 [1, 0, 2] (looked e ix) transposes_S128x80x100_S80x128x100_1_0_2

/-- Argument `r` at the start. -/
abbrev arg (r : Ref sig .tc) := m ((c.tc : Thread nD τ).loc r)

theorem entry : At (parOf (arg m c main_arg2) (arg m c main_arg3) (arg m c main_arg4) (arg m c main_arg5) (arg m c main_arg6) (arg m c main_arg7))
    (inputs (arg m c main_arg1) (arg m c main_arg0)) (entryContents preI m c) 0 := by
  have hx : xs (entryContents preI m c) = inputs (arg m c main_arg1) (arg m c main_arg0) := by
    simp only [xs, entryContents, afterL_cons, afterL_nil]
    rw [read_xs, read_looked]
    rfl
  refine ⟨hx, ?_, ?_, fun r => ?_, fun r => ?_, fun r => ?_, fun r => ?_⟩
  · simp only [wk0, wr0, b0, wk1, wr1, b1, entryContents, afterL_cons, afterL_nil]
    rw [read_w0, read_w1, read_w2, read_w3, read_w4, read_w5, keep_main_arg2_hostOps0, keep_main_arg3_hostOps0, keep_main_arg4_hostOps0,
      keep_main_arg5_hostOps0, keep_main_arg6_hostOps0, keep_main_arg7_hostOps0]
  · rw [ctr_entry, Scf.iv_zero]
  · refine (congrArg (row · r) ?_).trans (zeroState_row r)
    simp only [h0, entryContents, afterL_cons, afterL_nil]; exact read_s0 _
  · refine (congrArg (row · r) ?_).trans (zeroState_row r)
    simp only [c0, entryContents, afterL_cons, afterL_nil]; exact read_s1 _
  · refine (congrArg (row · r) ?_).trans (zeroState_row r)
    simp only [h1, entryContents, afterL_cons, afterL_nil]; exact read_s2 _
  · refine (congrArg (row · r) ?_).trans (zeroState_row r)
    simp only [c1, entryContents, afterL_cons, afterL_nil]; exact read_s3 _

/-- **What the loop reads:** at input `t` of batch row `r`, the embedding's row that index `(r, t)` names. -/
theorem inputs_row (e : FVec Ideal S10000x100 .f32) (hix : ∀ j, (ix j).toNat < 10000) (r : Fin 128) (t : ℕ) :
    inp (inputs e ix) r t = fun k => e (ix2 (rowNo (ix (ix2 r ⟨min t 79, by omega⟩))) k) := by
  funext k
  unfold inp inputs
  refine (transpose_apply _ _ _ _ (ix3 r ⟨min t 79, by omega⟩ k) fun c => ?_).trans (looked_at hix e r _ k)
  match c with
  | ⟨0, _⟩ => rfl
  | ⟨1, _⟩ => rfl
  | ⟨2, _⟩ => rfl

end Cert.Proof.Ref
-- ==== Proof.Algebraic.lean ====
/-
  THE VALUE: over the extended reals the kernel and the reference make the same output, the dense head of the second layer's
  h after all 80 inputs (`same_value`), so from the same arguments they end with the same result (`algebraic`).
-/
module

public import proofs.«01_k».proof.Proof.Outcome
public import proofs.«01_k».proof.Proof.Pack
public import proofs.«01_k».proof.Proof.Rows
public import proofs.«01_k».proof.Proof.RefEntry

@[expose] public section

set_option maxRecDepth 8192

noncomputable section

namespace Cert.Proof

open Cert.KernelIdeal Cert.KernelIdeal.Gen
open Idealize.ShloMosaic hiding ix1 ix2 ix3
open Idealize.ShloMosaic.ValueIdx Idealize.ShloMosaic.TcCoe
open Idealize.SL Idealize.SL.Sem

/-- The output of batch row `r`, from the arguments. -/
def value (x : IVec S128x80 32) (e : FVec Ideal S10000x100 .f32) (wk0 : FVec Ideal S100x256 .f32) (wr0 : FVec Ideal S64x256 .f32)
    (b0 : FVec Ideal S256 .f32) (wk1 wr1 : FVec Ideal S64x256 .f32) (b1 : FVec Ideal S256 .f32) (wd1 : FVec Ideal S64x64 .f32)
    (bd1 : FVec Ideal S64 .f32) (wd2 : FVec Ideal S64x1 .f32) (bd2 : FVec Ideal S1 .f32) (r : Fin 128) : EReal :=
  head (second (parOf wk0 wr0 b0 wk1 wr1 b1) (fun t k => e (ix2 (rowOf (x (ix2 r ⟨min t 79, by omega⟩))) k)) 80).1 (mat wd1)
    (fun j => bd1 (ix1 j)) (fun j => wd2 (ix2 j (0 : Fin 1))) (bd2 (ix1 (0 : Fin 1)))

section

variable (m : (ℓ : Loc nD τ sig) → Buf (Elt Ideal) ℓ) (d : Dev nD)

theorem kernel_value (r : Fin 128) : result m d (ix2 r (0 : Fin 1))
    = value (arg m d main_arg0) (arg m d main_arg1) (arg m d main_arg2) (arg m d main_arg3) (arg m d main_arg4) (arg m d main_arg5)
        (arg m d main_arg6) (arg m d main_arg7) (arg m d main_arg8) (arg m d main_arg9) (arg m d main_arg10) (arg m d main_arg11) r := by
  unfold result
  refine (body_value _ (packed _ _ _ _ _ _) _ _ _ _ r).trans ?_
  have hx : inp (gath (padTable (arg m d main_arg1)) (timeMajor (arg m d main_arg0))) r
      = fun t k => arg m d main_arg1 (ix2 (rowOf (arg m d main_arg0 (ix2 r ⟨min t 79, by omega⟩))) k) := funext fun t => rows_at _ _ r t
  have h9 : row (shapeCast S1x64 (arg m d main_arg9) shapeCasts_S64_S1x64 : FVec Ideal S1x64 .f32) 0 = fun j => arg m d main_arg9 (ix1 j) :=
    funext fun j => shapeCast_a_1a_apply _ _ _ _
  have h11 : (shapeCast S1x1 (arg m d main_arg11) shapeCasts_S1_S1x1 : FVec Ideal S1x1 .f32) (ix2 (0 : Fin 1) (0 : Fin 1))
      = arg m d main_arg11 (ix1 (0 : Fin 1)) := shapeCast_a_1a_apply _ _ _ _
  rw [hx, h9, h11]
  rfl

end

section

open Cert.ReferenceIdeal.Value

variable (m : (ℓ : Loc Cert.ReferenceIdeal.nD Cert.ReferenceIdeal.τ Cert.ReferenceIdeal.sig) → Buf (Elt Ideal) ℓ)
  (c : Dev Cert.ReferenceIdeal.nD)

theorem reference_value (hix : InVocab (Ref.arg m c Cert.ReferenceIdeal.main_arg0)) (r : Fin 128) :
    out_main_v22 (STEP^[80] (StableHlo.entryContents preI m c)) (ix2 r (0 : Fin 1))
    = value (Ref.arg m c Cert.ReferenceIdeal.main_arg0) (Ref.arg m c Cert.ReferenceIdeal.main_arg1)
        (Ref.arg m c Cert.ReferenceIdeal.main_arg2) (Ref.arg m c Cert.ReferenceIdeal.main_arg3)
        (Ref.arg m c Cert.ReferenceIdeal.main_arg4) (Ref.arg m c Cert.ReferenceIdeal.main_arg5)
        (Ref.arg m c Cert.ReferenceIdeal.main_arg6) (Ref.arg m c Cert.ReferenceIdeal.main_arg7)
        (Ref.arg m c Cert.ReferenceIdeal.main_arg8) (Ref.arg m c Cert.ReferenceIdeal.main_arg9)
        (Ref.arg m c Cert.ReferenceIdeal.main_arg10) (Ref.arg m c Cert.ReferenceIdeal.main_arg11) r := by
  have h := Ref.after_trips (Ref.entry m c) 80 le_rfl
  refine (Ref.out_value _ _ _ _ _ (iter_main_arg8 m c 80) (iter_main_arg9 m c 80) (iter_main_arg10 m c 80) (iter_main_arg11 m c 80) r).trans ?_
  have hx : Ref.inp (Ref.inputs (Ref.arg m c Cert.ReferenceIdeal.main_arg1) (Ref.arg m c Cert.ReferenceIdeal.main_arg0)) r
      = fun t k => Ref.arg m c Cert.ReferenceIdeal.main_arg1
          (ix2 (rowOf (Ref.arg m c Cert.ReferenceIdeal.main_arg0 (ix2 r ⟨min t 79, by omega⟩))) k) :=
    funext fun t => Ref.inputs_row _ hix r t
  rw [h.h1 r, hx]
  rfl

end

theorem frame_reference_in_vocab : Cert.quiescent_ReferenceIdeal_pre_in_vocab := fun m g _ => frame_reference m g trivial

/-- **The kernel and the reference end with the same result.** -/
theorem algebraic : Cert.algebraic_KernelIdeal_ReferenceIdeal := fun m g m' g' hpre hargs => by
  have hin : ∀ d, InVocab (arg m d main_arg0) := fun d => inVocab_of_fn _ (hpre d)
  refine ⟨fun c => result m c, ?_, ?_⟩
  · exact (θ_run Cert.KernelIdeal.defs _ _).mono (fun _ h c => h.1 c) (run m g (list_ok m hin))
  · refine (θ_run Cert.ReferenceIdeal.defs _ _).mono (fun _ h c => ⟨(h c).1.trans ?_, (h c).2⟩)
      (Cert.ReferenceIdeal.Value.run (F := Ideal) m' g')
    obtain ⟨a0, a1, a2, a3, a4, a5, a6, a7, a8, a9, a10, a11⟩ := hargs c
    funext j
    obtain ⟨r, rfl⟩ : ∃ r : Fin 128, j = ix2 r (0 : Fin 1) := ⟨j 0, by
      funext a
      match a with
      | ⟨0, _⟩ => rfl
      | ⟨1, _⟩ => exact Subsingleton.elim (α := Fin 1) _ _⟩
    refine (reference_value m' c ?_ r).trans (Eq.trans ?_ (kernel_value m c r).symm)
    · exact fun j => (congrArg (fun x : IVec S128x80 32 => (x j).toNat) a0).trans_lt (hin c j)
    · simp only [Ref.arg]
      rw [a0, a1, a2, a3, a4, a5, a6, a7, a8, a9, a10, a11]

end Cert.Proof

end
-- ==== Proof.lean ====
/-
  The proof of `Cert.Claim`: the frames of the printed kernel, of the ideal kernel and of the reference (the last with and
  without the indices' range), that the ideal kernel is the printed one over the extended reals, and that the ideal kernel and
  the reference end with the same result. `Outcome` holds the frames, `Algebraic` the value.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Outcome
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocab.Gen.facts,
  frame_printed, frame_ideal, frame_reference, frame_reference_in_vocab, trivial, algebraic⟩

end Cert.Proof

end
